-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![2, 512, 768]⟩ ⟨3, ![2, 2048, 768]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![768, 512]⟩ ⟨2, ![768, 2048]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![512, 768]⟩ ⟨2, ![2048, 768]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 512, 768]⟩ ⟨3, ![2, 2048, 768]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v49) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x512x768 : Shape := ⟨3, ![2, 512, 768]⟩
abbrev S768x512 : Shape := ⟨2, ![768, 512]⟩
abbrev S2x512x32x64 : Shape := ⟨4, ![2, 512, 32, 64]⟩
abbrev S512x768 : Shape := ⟨2, ![512, 768]⟩
abbrev S_ : Shape := ⟨0, ![]⟩

class Facts : Prop where
  bcast_S_S2x512x768 : S_.BroadcastsInDim S2x512x768 (![] : Fin 0 → Fin S2x512x768.rank)
  bcast_S_S768x512 : S_.BroadcastsInDim S768x512 (![] : Fin 0 → Fin S768x512.rank)
  bcast_S_S2x512x32x64 : S_.BroadcastsInDim S2x512x32x64 (![] : Fin 0 → Fin S2x512x32x64.rank)

variable [Facts]

def fn {F : FTy → Type} [FloatOps F] (main_arg0 : FVec F S2x512x768 .bf16) (main_arg1 : FVec F S768x512 .bf16) (main_arg2 : FVec F S2x512x32x64 .bf16) (main_arg3 : FVec F S2x512x32x64 .bf16) (main_arg4 : FVec F S512x768 .bf16) : IVec S2x512x768 1 × IVec S768x512 1 × IVec S2x512x32x64 1 :=
  let main_v0 : FVec F S2x512x768 .bf16 := Host.absf main_arg0
  let main_cst : FVec F S_ .bf16 := constant S_ .bf16 0x7F80#16
  let main_v1 : FVec F S2x512x768 .bf16 := broadcastInDim S2x512x768 ![] bcast_S_S2x512x768 main_cst
  let main_v2 : IVec S2x512x768 1 := cmpf .olt main_v0 main_v1
  let main_v3 : FVec F S768x512 .bf16 := Host.absf main_arg1
  let main_cst_0 : FVec F S_ .bf16 := constant S_ .bf16 0x7F80#16
  let main_v4 : FVec F S768x512 .bf16 := broadcastInDim S768x512 ![] bcast_S_S768x512 main_cst_0
  let main_v5 : IVec S768x512 1 := cmpf .olt main_v3 main_v4
  let main_v6 : FVec F S2x512x32x64 .bf16 := Host.absf main_arg2
  let main_cst_1 : FVec F S_ .bf16 := constant S_ .bf16 0x7F80#16
  let main_v7 : FVec F S2x512x32x64 .bf16 := broadcastInDim S2x512x32x64 ![] bcast_S_S2x512x32x64 main_cst_1
  let main_v8 : IVec S2x512x32x64 1 := cmpf .olt main_v6 main_v7
  (main_v2, main_v5, main_v8)
-- ==== Pre_finite_ReferenceIdeal.lean ====
abbrev S2x2048x768 : Shape := ⟨3, ![2, 2048, 768]⟩
abbrev S768x2048 : Shape := ⟨2, ![768, 2048]⟩
abbrev S2x512x32x64 : Shape := ⟨4, ![2, 512, 32, 64]⟩
abbrev S2048x768 : Shape := ⟨2, ![2048, 768]⟩
abbrev S_ : Shape := ⟨0, ![]⟩

class Facts : Prop where
  bcast_S_S2x2048x768 : S_.BroadcastsInDim S2x2048x768 (![] : Fin 0 → Fin S2x2048x768.rank)
  bcast_S_S768x2048 : S_.BroadcastsInDim S768x2048 (![] : Fin 0 → Fin S768x2048.rank)
  bcast_S_S2x512x32x64 : S_.BroadcastsInDim S2x512x32x64 (![] : Fin 0 → Fin S2x512x32x64.rank)

variable [Facts]

def fn {F : FTy → Type} [FloatOps F] (main_arg0 : FVec F S2x2048x768 .bf16) (main_arg1 : FVec F S768x2048 .bf16) (main_arg2 : FVec F S2x512x32x64 .bf16) (main_arg3 : FVec F S2x512x32x64 .bf16) (main_arg4 : FVec F S2048x768 .bf16) : IVec S2x2048x768 1 × IVec S768x2048 1 × IVec S2x512x32x64 1 :=
  let main_v0 : FVec F S2x2048x768 .bf16 := Host.absf main_arg0
  let main_cst : FVec F S_ .bf16 := constant S_ .bf16 0x7F80#16
  let main_v1 : FVec F S2x2048x768 .bf16 := broadcastInDim S2x2048x768 ![] bcast_S_S2x2048x768 main_cst
  let main_v2 : IVec S2x2048x768 1 := cmpf .olt main_v0 main_v1
  let main_v3 : FVec F S768x2048 .bf16 := Host.absf main_arg1
  let main_cst_0 : FVec F S_ .bf16 := constant S_ .bf16 0x7F80#16
  let main_v4 : FVec F S768x2048 .bf16 := broadcastInDim S768x2048 ![] bcast_S_S768x2048 main_cst_0
  let main_v5 : IVec S768x2048 1 := cmpf .olt main_v3 main_v4
  let main_v6 : FVec F S2x512x32x64 .bf16 := Host.absf main_arg2
  let main_cst_1 : FVec F S_ .bf16 := constant S_ .bf16 0x7F80#16
  let main_v7 : FVec F S2x512x32x64 .bf16 := broadcastInDim S2x512x32x64 ![] bcast_S_S2x512x32x64 main_cst_1
  let main_v8 : IVec S2x512x32x64 1 := cmpf .olt main_v6 main_v7
  (main_v2, main_v5, main_v8)
-- ==== Kernel.lean ====
abbrev S2x512x768 : Shape := ⟨3, ![2, 512, 768]⟩
abbrev S768x512 : Shape := ⟨2, ![768, 512]⟩
abbrev S2x512x32x64 : Shape := ⟨4, ![2, 512, 32, 64]⟩
abbrev S512x768 : Shape := ⟨2, ![512, 768]⟩
abbrev S4x768x512 : Shape := ⟨3, ![4, 768, 512]⟩
abbrev S4x512x768 : Shape := ⟨3, ![4, 512, 768]⟩
abbrev S2x512x2048 : Shape := ⟨3, ![2, 512, 2048]⟩
abbrev S3 : Shape := ⟨1, ![3]⟩
abbrev S4 : Shape := ⟨1, ![4]⟩
abbrev S_ : Shape := ⟨0, ![]⟩
abbrev S1x768x512 : Shape := ⟨3, ![1, 768, 512]⟩
abbrev S1x512x768 : Shape := ⟨3, ![1, 512, 768]⟩
abbrev S1 : Shape := ⟨1, ![1]⟩
abbrev S1x512x8x64 : Shape := ⟨4, ![1, 512, 8, 64]⟩
abbrev S512x8x64 : Shape := ⟨3, ![512, 8, 64]⟩
abbrev S512x512 : Shape := ⟨2, ![512, 512]⟩
abbrev S1x512x512 : Shape := ⟨3, ![1, 512, 512]⟩
abbrev S512x8 : Shape := ⟨2, ![512, 8]⟩
abbrev S512x64 : Shape := ⟨2, ![512, 64]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S2x512x768, .bf16⟩
  | .hbm, ⟨1, _⟩ => ⟨S768x512, .bf16⟩
  | .hbm, ⟨2, _⟩ => ⟨S2x512x32x64, .bf16⟩
  | .hbm, ⟨3, _⟩ => ⟨S2x512x32x64, .bf16⟩
  | .hbm, ⟨4, _⟩ => ⟨S512x768, .bf16⟩
  | .hbm, ⟨5, _⟩ => ⟨S2x512x768, .f32⟩
  | .local _ .vmem, ⟨0, _⟩ => ⟨S2x512x768, .bf16⟩
  | .local _ .vmem, ⟨1, _⟩ => ⟨S768x512, .bf16⟩
  | .local _ .vmem, ⟨2, _⟩ => ⟨S2x512x32x64, .bf16⟩
  | .local _ .vmem, ⟨3, _⟩ => ⟨S2x512x32x64, .bf16⟩
  | .local _ .vmem, ⟨4, _⟩ => ⟨S512x768, .bf16⟩
  | .local _ .vmem, ⟨5, _⟩ => ⟨S2x512x768, .f32⟩
  | .local _ .vmem, ⟨6, _⟩ => ⟨S4x768x512, .bf16⟩
  | .local _ .vmem, ⟨7, _⟩ => ⟨S4x512x768, .bf16⟩
  | .local _ .vmem, ⟨8, _⟩ => ⟨S2x512x2048, .bf16⟩
  | .local _ .vmem, ⟨9, _⟩ => ⟨S2x512x2048, .bf16⟩
  | _, _ => ⟨S2x512x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_off1 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v19 : Index := Scalar.indexCast v2
  let c0_14 : Index := 0#32
  let c0_15 : Index := 0#32
  ![v19.toNat, 0, 0]
def k0_off2 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v26 : Index := Scalar.indexCast v2
  let c0_18 : Index := 0#32
  let c0_19 : Index := 0#32
  ![v26.toNat, 0, 0]
def k0_off3 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_25 : BitVec 32 := 0#32
  let c0_i32_26 : BitVec 32 := 0#32
  ![v2.toNat, 0, 0]
def k0_dev4 (d0 : Dev nD) : Nat :=
  let c0_i32_24 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_20 : BitVec 32 := 1#32
  let v30 : BitVec 32 := Scalar.addi v2 c1_i32_20
  let c4_i32_21 : BitVec 32 := 4#32
  let v31 : BitVec 32 := Scalar.remsi v30 c4_i32_21
  let c1_i32_23 : BitVec 32 := 1#32
  let v32 : BitVec 32 := Scalar.muli v31 c1_i32_23
  let v33 : BitVec 32 := Scalar.addi c0_i32_24 v32
  v33.toNat
def k0_off5 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_32 : BitVec 32 := 0#32
  let c0_i32_33 : BitVec 32 := 0#32
  ![v2.toNat, 0, 0]
def k0_dev5 (d0 : Dev nD) : Nat :=
  let c0_i32_31 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_20 : BitVec 32 := 1#32
  let v30 : BitVec 32 := Scalar.addi v2 c1_i32_20
  let c4_i32_21 : BitVec 32 := 4#32
  let v31 : BitVec 32 := Scalar.remsi v30 c4_i32_21
  let c1_i32_30 : BitVec 32 := 1#32
  let v42 : BitVec 32 := Scalar.muli v31 c1_i32_30
  let v43 : BitVec 32 := Scalar.addi c0_i32_31 v42
  v43.toNat
def k0_dev6 (d0 : Dev nD) : Nat :=
  let c0_i32_40 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_36 : BitVec 32 := 2#32
  let v52 : BitVec 32 := Scalar.addi v2 c2_i32_36
  let c4_i32_37 : BitVec 32 := 4#32
  let v53 : BitVec 32 := Scalar.remsi v52 c4_i32_37
  let c1_i32_39 : BitVec 32 := 1#32
  let v54 : BitVec 32 := Scalar.muli v53 c1_i32_39
  let v55 : BitVec 32 := Scalar.addi c0_i32_40 v54
  v55.toNat
def k0_dev7 (d0 : Dev nD) : Nat :=
  let c0_i32_47 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_36 : BitVec 32 := 2#32
  let v52 : BitVec 32 := Scalar.addi v2 c2_i32_36
  let c4_i32_37 : BitVec 32 := 4#32
  let v53 : BitVec 32 := Scalar.remsi v52 c4_i32_37
  let c1_i32_46 : BitVec 32 := 1#32
  let v64 : BitVec 32 := Scalar.muli v53 c1_i32_46
  let v65 : BitVec 32 := Scalar.addi c0_i32_47 v64
  v65.toNat
def k0_dev8 (d0 : Dev nD) : Nat :=
  let c0_i32_56 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_52 : BitVec 32 := 3#32
  let v74 : BitVec 32 := Scalar.addi v2 c3_i32_52
  let c4_i32_53 : BitVec 32 := 4#32
  let v75 : BitVec 32 := Scalar.remsi v74 c4_i32_53
  let c1_i32_55 : BitVec 32 := 1#32
  let v76 : BitVec 32 := Scalar.muli v75 c1_i32_55
  let v77 : BitVec 32 := Scalar.addi c0_i32_56 v76
  v77.toNat
def k0_dev9 (d0 : Dev nD) : Nat :=
  let c0_i32_63 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_52 : BitVec 32 := 3#32
  let v74 : BitVec 32 := Scalar.addi v2 c3_i32_52
  let c4_i32_53 : BitVec 32 := 4#32
  let v75 : BitVec 32 := Scalar.remsi v74 c4_i32_53
  let c1_i32_62 : BitVec 32 := 1#32
  let v86 : BitVec 32 := Scalar.muli v75 c1_i32_62
  let v87 : BitVec 32 := Scalar.addi c0_i32_63 v86
  v87.toNat
def k0_off6 (d0 : Dev nD) (c0_i32_205 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v271 : BitVec 32 := Scalar.addi v2 c0_i32_205
  let c4_i32_206 : BitVec 32 := 4#32
  let v272 : BitVec 32 := Scalar.remsi v271 c4_i32_206
  let v273 : Index := Scalar.indexCast v272
  let c0_207 : Index := 0#32
  let c0_208 : Index := 0#32
  ![v273.toNat, 0, 0]
def k0_off7 (d0 : Dev nD) (c0_i32_205 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v271 : BitVec 32 := Scalar.addi v2 c0_i32_205
  let c4_i32_206 : BitVec 32 := 4#32
  let v272 : BitVec 32 := Scalar.remsi v271 c4_i32_206
  let v276 : Index := Scalar.indexCast v272
  let c0_209 : Index := 0#32
  let c0_210 : Index := 0#32
  ![v276.toNat, 0, 0]
def k0_off8 (d0 : Dev nD) (c0_i32_205 : BitVec 32) : Fin 3 → Nat :=
  let c0_212 : Index := 0#32
  let c0_213 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v271 : BitVec 32 := Scalar.addi v2 c0_i32_205
  let c4_i32_206 : BitVec 32 := 4#32
  let v272 : BitVec 32 := Scalar.remsi v271 c4_i32_206
  let c512_i32 : BitVec 32 := 512#32
  let v281 : BitVec 32 := Scalar.muli v272 c512_i32
  let v282 : Index := Scalar.indexCast v281
  ![0, 0, v282.toNat]
def k0_off9 (d0 : Dev nD) (c0_i32_205 : BitVec 32) : Fin 3 → Nat :=
  let c1_258 : Index := 1#32
  let c0_259 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v271 : BitVec 32 := Scalar.addi v2 c0_i32_205
  let c4_i32_206 : BitVec 32 := 4#32
  let v272 : BitVec 32 := Scalar.remsi v271 c4_i32_206
  let c512_i32_257 : BitVec 32 := 512#32
  let v419 : BitVec 32 := Scalar.muli v272 c512_i32_257
  let v420 : Index := Scalar.indexCast v419
  ![1, 0, v420.toNat]
def k0_off10 (d0 : Dev nD) (c1_i32_302 : BitVec 32) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v555 : BitVec 32 := Scalar.addi v2 c1_i32_302
  let c4_i32_303 : BitVec 32 := 4#32
  let v556 : BitVec 32 := Scalar.remsi v555 c4_i32_303
  ![v556.toNat]
def k0_off11 (d0 : Dev nD) (c1_i32_302 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v555 : BitVec 32 := Scalar.addi v2 c1_i32_302
  let c4_i32_303 : BitVec 32 := 4#32
  let v556 : BitVec 32 := Scalar.remsi v555 c4_i32_303
  let c0_i32_307 : BitVec 32 := 0#32
  let c0_i32_308 : BitVec 32 := 0#32
  ![v556.toNat, 0, 0]
def k0_off12 (d0 : Dev nD) (c1_i32_302 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v555 : BitVec 32 := Scalar.addi v2 c1_i32_302
  let c4_i32_303 : BitVec 32 := 4#32
  let v556 : BitVec 32 := Scalar.remsi v555 c4_i32_303
  let c0_i32_314 : BitVec 32 := 0#32
  let c0_i32_315 : BitVec 32 := 0#32
  ![v556.toNat, 0, 0]
abbrev stage0_0 : Fin 1 → Memref sig .tc .vmem S2x512x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x32x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x32x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x512x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x2048x768 : Shape := ⟨3, ![2, 2048, 768]⟩
abbrev S768x2048 : Shape := ⟨2, ![768, 2048]⟩
abbrev S2x512x32x64 : Shape := ⟨4, ![2, 512, 32, 64]⟩
abbrev S2048x768 : Shape := ⟨2, ![2048, 768]⟩
abbrev S2x2048x2048 : Shape := ⟨3, ![2, 2048, 2048]⟩
abbrev S2x2048x32x64 : Shape := ⟨4, ![2, 2048, 32, 64]⟩
abbrev S2048 : Shape := ⟨1, ![2048]⟩
abbrev S_ : Shape := ⟨0, ![]⟩
abbrev S2048x1 : Shape := ⟨2, ![2048, 1]⟩
abbrev S512 : Shape := ⟨1, ![512]⟩
abbrev S1x512 : Shape := ⟨2, ![1, 512]⟩
abbrev S2048x512 : Shape := ⟨2, ![2048, 512]⟩
abbrev S2x32x2048x512 : Shape := ⟨4, ![2, 32, 2048, 512]⟩
abbrev S1x1x2048x512 : Shape := ⟨4, ![1, 1, 2048, 512]⟩
abbrev S2x32x2048 : Shape := ⟨3, ![2, 32, 2048]⟩
abbrev S2x32x2048x1 : Shape := ⟨4, ![2, 32, 2048, 1]⟩
abbrev S1x1x2048x1 : Shape := ⟨4, ![1, 1, 2048, 1]⟩
abbrev S2x32x64x2048 : Shape := ⟨4, ![2, 32, 64, 2048]⟩

abbrev nBuf : Space → Nat
  | .hbm => 128
  | .vmem => 0
  | .smem => 0
  | _ => 0

abbrev bufTy : (tb : Table) → Fin (tcTables nBuf tb) → BufTy
  | .hbm, ⟨0, _⟩ => ⟨S2x2048x768, .bf16⟩
  | .hbm, ⟨1, _⟩ => ⟨S768x2048, .bf16⟩
  | .hbm, ⟨2, _⟩ => ⟨S2x512x32x64, .bf16⟩
  | .hbm, ⟨3, _⟩ => ⟨S2x512x32x64, .bf16⟩
  | .hbm, ⟨4, _⟩ => ⟨S2048x768, .bf16⟩
  | .hbm, ⟨5, _⟩ => ⟨S2x2048x2048, .f32⟩
  | .hbm, ⟨6, _⟩ => ⟨S2x2048x2048, .bf16⟩
  | .hbm, ⟨7, _⟩ => ⟨S2x2048x32x64, .bf16⟩
  | .hbm, ⟨8, _⟩ => ⟨S2048, .i32⟩
  | .hbm, ⟨9, _⟩ => ⟨S_, .i32⟩
  | .hbm, ⟨10, _⟩ => ⟨S_, .i32⟩
  | .hbm, ⟨11, _⟩ => ⟨S2048, .i32⟩
  | .hbm, ⟨12, _⟩ => ⟨S2048, .i32⟩
  | .hbm, ⟨13, _⟩ => ⟨S2048, .i32⟩
  | .hbm, ⟨14, _⟩ => ⟨S_, .i32⟩
  | .hbm, ⟨15, _⟩ => ⟨S2048, .i32⟩
  | .hbm, ⟨16, _⟩ => ⟨S2048, .i1⟩
  | .hbm, ⟨17, _⟩ => ⟨S2048, .i32⟩
  | .hbm, ⟨18, _⟩ => ⟨S2048, .i32⟩
  | .hbm, ⟨19, _⟩ => ⟨S_, .i32⟩
  | .hbm, ⟨20, _⟩ => ⟨S2048, .i32⟩
  | .hbm, ⟨21, _⟩ => ⟨S2048, .i1⟩
  | .hbm, ⟨22, _⟩ => ⟨S2048, .i1⟩
  | .hbm, ⟨23, _⟩ => ⟨S_, .i32⟩
  | .hbm, ⟨24, _⟩ => ⟨S2048, .i32⟩
  | .hbm, ⟨25, _⟩ => ⟨S2048, .i32⟩
  | .hbm, ⟨26, _⟩ => ⟨S2048, .i32⟩
  | .hbm, ⟨27, _⟩ => ⟨S2048x1, .i32⟩
  | .hbm, ⟨28, _⟩ => ⟨S512, .i32⟩
  | .hbm, ⟨29, _⟩ => ⟨S_, .i32⟩
  | .hbm, ⟨30, _⟩ => ⟨S_, .i32⟩
  | .hbm, ⟨31, _⟩ => ⟨S512, .i32⟩
  | .hbm, ⟨32, _⟩ => ⟨S512, .i32⟩
  | .hbm, ⟨33, _⟩ => ⟨S512, .i32⟩
  | .hbm, ⟨34, _⟩ => ⟨S_, .i32⟩
  | .hbm, ⟨35, _⟩ => ⟨S512, .i32⟩
  | .hbm, ⟨36, _⟩ => ⟨S512, .i1⟩
  | .hbm, ⟨37, _⟩ => ⟨S512, .i32⟩
  | .hbm, ⟨38, _⟩ => ⟨S512, .i32⟩
  | .hbm, ⟨39, _⟩ => ⟨S_, .i32⟩
  | .hbm, ⟨40, _⟩ => ⟨S512, .i32⟩
  | .hbm, ⟨41, _⟩ => ⟨S512, .i1⟩
  | .hbm, ⟨42, _⟩ => ⟨S512, .i1⟩
  | .hbm, ⟨43, _⟩ => ⟨S_, .i32⟩
  | .hbm, ⟨44, _⟩ => ⟨S512, .i32⟩
  | .hbm, ⟨45, _⟩ => ⟨S512, .i32⟩
  | .hbm, ⟨46, _⟩ => ⟨S512, .i32⟩
  | .hbm, ⟨47, _⟩ => ⟨S1x512, .i32⟩
  | .hbm, ⟨48, _⟩ => ⟨S2048x512, .i32⟩
  | .hbm, ⟨49, _⟩ => ⟨S2048x512, .i32⟩
  | .hbm, ⟨50, _⟩ => ⟨S2048x512, .i1⟩
  | .hbm, ⟨51, _⟩ => ⟨S_, .i32⟩
  | .hbm, ⟨52, _⟩ => ⟨S1x512, .i32⟩
  | .hbm, ⟨53, _⟩ => ⟨S1x512, .i1⟩
  | .hbm, ⟨54, _⟩ => ⟨S2048x512, .i1⟩
  | .hbm, ⟨55, _⟩ => ⟨S2048x512, .i1⟩
  | .hbm, ⟨56, _⟩ => ⟨S2048x512, .i32⟩
  | .hbm, ⟨57, _⟩ => ⟨S2048x512, .i32⟩
  | .hbm, ⟨58, _⟩ => ⟨S2048x512, .i32⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S_, .i1⟩
  | .hbm, ⟨63, _⟩ => ⟨S_, .i32⟩
  | .hbm, ⟨64, _⟩ => ⟨S_, .i32⟩
  | .hbm, ⟨65, _⟩ => ⟨S2048x512, .i32⟩
  | .hbm, ⟨66, _⟩ => ⟨S2048x512, .i32⟩
  | .hbm, ⟨67, _⟩ => ⟨S_, .i32⟩
  | .hbm, ⟨68, _⟩ => ⟨S2048x512, .i32⟩
  | .hbm, ⟨69, _⟩ => ⟨S2048x512, .i1⟩
  | .hbm, ⟨70, _⟩ => ⟨S_, .i32⟩
  | .hbm, ⟨71, _⟩ => ⟨S2048x512, .i32⟩
  | .hbm, ⟨72, _⟩ => ⟨S2048x512, .i1⟩
  | .hbm, ⟨73, _⟩ => ⟨S_, .i32⟩
  | .hbm, ⟨74, _⟩ => ⟨S_, .i1⟩
  | .hbm, ⟨75, _⟩ => ⟨S2048x512, .i1⟩
  | .hbm, ⟨76, _⟩ => ⟨S2048x512, .i1⟩
  | .hbm, ⟨77, _⟩ => ⟨S2048x512, .i1⟩
  | .hbm, ⟨78, _⟩ => ⟨S2048x512, .i32⟩
  | .hbm, ⟨79, _⟩ => ⟨S2048x512, .i32⟩
  | .hbm, ⟨80, _⟩ => ⟨S2048x512, .i32⟩
  | .hbm, ⟨81, _⟩ => ⟨S_, .i32⟩
  | .hbm, ⟨82, _⟩ => ⟨S2048x512, .i32⟩
  | .hbm, ⟨83, _⟩ => ⟨S2048x512, .i1⟩
  | .hbm, ⟨84, _⟩ => ⟨S2048x512, .i1⟩
  | .hbm, ⟨85, _⟩ => ⟨S2x32x2048x512, .f32⟩
  | .hbm, ⟨86, _⟩ => ⟨S2x32x2048x512, .bf16⟩
  | .hbm, ⟨87, _⟩ => ⟨S2x32x2048x512, .f32⟩
  | .hbm, ⟨88, _⟩ => ⟨S_, .f32⟩
  | .hbm, ⟨89, _⟩ => ⟨S2x32x2048x512, .f32⟩
  | .hbm, ⟨90, _⟩ => ⟨S2x32x2048x512, .f32⟩
  | .hbm, ⟨91, _⟩ => ⟨S1x1x2048x512, .i1⟩
  | .hbm, ⟨92, _⟩ => ⟨S_, .f32⟩
  | .hbm, ⟨93, _⟩ => ⟨S_, .f32⟩
  | .hbm, ⟨94, _⟩ => ⟨S2x32x2048x512, .i1⟩
  | .hbm, ⟨95, _⟩ => ⟨S2x32x2048x512, .f32⟩
  | .hbm, ⟨96, _⟩ => ⟨S2x32x2048x512, .f32⟩
  | .hbm, ⟨97, _⟩ => ⟨S_, .f32⟩
  | .hbm, ⟨98, _⟩ => ⟨S2x32x2048, .f32⟩
  | .hbm, ⟨99, _⟩ => ⟨S2x32x2048x1, .f32⟩
  | .hbm, ⟨100, _⟩ => ⟨S2x32x2048x512, .f32⟩
  | .hbm, ⟨101, _⟩ => ⟨S2x32x2048x512, .f32⟩
  | .hbm, ⟨102, _⟩ => ⟨S2x32x2048x512, .f32⟩
  | .hbm, ⟨103, _⟩ => ⟨S_, .i1⟩
  | .hbm, ⟨104, _⟩ => ⟨S2048, .i1⟩
  | .hbm, ⟨105, _⟩ => ⟨S1x1x2048x1, .i1⟩
  | .hbm, ⟨106, _⟩ => ⟨S_, .f32⟩
  | .hbm, ⟨107, _⟩ => ⟨S2x32x2048, .f32⟩
  | .hbm, ⟨108, _⟩ => ⟨S2x32x2048x1, .f32⟩
  | .hbm, ⟨109, _⟩ => ⟨S_, .f32⟩
  | .hbm, ⟨110, _⟩ => ⟨S_, .f32⟩
  | .hbm, ⟨111, _⟩ => ⟨S2x32x2048x1, .i1⟩
  | .hbm, ⟨112, _⟩ => ⟨S2x32x2048x1, .f32⟩
  | .hbm, ⟨113, _⟩ => ⟨S2x32x2048x1, .f32⟩
  | .hbm, ⟨114, _⟩ => ⟨S2x32x2048x512, .f32⟩
  | .hbm, ⟨115, _⟩ => ⟨S2x32x2048x512, .f32⟩
  | .hbm, ⟨116, _⟩ => ⟨S1x1x2048x1, .i1⟩
  | .hbm, ⟨117, _⟩ => ⟨S_, .f32⟩
  | .hbm, ⟨118, _⟩ => ⟨S_, .f32⟩
  | .hbm, ⟨119, _⟩ => ⟨S2x32x2048x512, .i1⟩
  | .hbm, ⟨120, _⟩ => ⟨S2x32x2048x512, .f32⟩
  | .hbm, ⟨121, _⟩ => ⟨S2x32x2048x512, .f32⟩
  | .hbm, ⟨122, _⟩ => ⟨S2x512x32x64, .f32⟩
  | .hbm, ⟨123, _⟩ => ⟨S2x32x64x2048, .f32⟩
  | .hbm, ⟨124, _⟩ => ⟨S2x2048x32x64, .f32⟩
  | .hbm, ⟨125, _⟩ => ⟨S2x2048x2048, .f32⟩
  | .hbm, ⟨126, _⟩ => ⟨S2048x768, .f32⟩
  | .hbm, ⟨127, _⟩ => ⟨S2x2048x768, .f32⟩
  | _, _ => ⟨S2x2048x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_c_1 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_c_2 : Ref sig .tc := ⟨.hbm, 59, rfl⟩
abbrev main_call2_v0 : Ref sig .tc := ⟨.hbm, 60, rfl⟩
abbrev main_call2_c : Ref sig .tc := ⟨.hbm, 61, rfl⟩
abbrev main_call2_v1 : Ref sig .tc := ⟨.hbm, 62, rfl⟩
abbrev main_call2_c_0 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_c_1 : Ref sig .tc := ⟨.hbm, 67, rfl⟩
abbrev main_call2_v5 : Ref sig .tc := ⟨.hbm, 68, rfl⟩
abbrev main_call2_v6 : Ref sig .tc := ⟨.hbm, 69, rfl⟩
abbrev main_call2_c_2 : Ref sig .tc := ⟨.hbm, 70, rfl⟩
abbrev main_call2_v7 : Ref sig .tc := ⟨.hbm, 71, rfl⟩
abbrev main_call2_v8 : Ref sig .tc := ⟨.hbm, 72, rfl⟩
abbrev main_call2_c_3 : Ref sig .tc := ⟨.hbm, 73, rfl⟩
abbrev main_call2_v9 : Ref sig .tc := ⟨.hbm, 74, rfl⟩
abbrev main_call2_v10 : Ref sig .tc := ⟨.hbm, 75, rfl⟩
abbrev main_call2_v11 : Ref sig .tc := ⟨.hbm, 76, rfl⟩
abbrev main_call2_v12 : Ref sig .tc := ⟨.hbm, 77, rfl⟩
abbrev main_call2_v13 : Ref sig .tc := ⟨.hbm, 78, rfl⟩
abbrev main_call2_v14 : Ref sig .tc := ⟨.hbm, 79, rfl⟩
abbrev main_v19 : Ref sig .tc := ⟨.hbm, 80, rfl⟩
abbrev main_c_3 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_v23 : Ref sig .tc := ⟨.hbm, 85, rfl⟩
abbrev main_v24 : Ref sig .tc := ⟨.hbm, 86, rfl⟩
abbrev main_v25 : Ref sig .tc := ⟨.hbm, 87, rfl⟩
abbrev main_cst : Ref sig .tc := ⟨.hbm, 88, rfl⟩
abbrev main_v26 : Ref sig .tc := ⟨.hbm, 89, rfl⟩
abbrev main_v27 : Ref sig .tc := ⟨.hbm, 90, rfl⟩
abbrev main_v28 : Ref sig .tc := ⟨.hbm, 91, rfl⟩
abbrev main_cst_4 : Ref sig .tc := ⟨.hbm, 92, rfl⟩
abbrev main_call3_v0 : Ref sig .tc := ⟨.hbm, 93, rfl⟩
abbrev main_call3_v1 : Ref sig .tc := ⟨.hbm, 94, rfl⟩
abbrev main_call3_v2 : Ref sig .tc := ⟨.hbm, 95, rfl⟩
abbrev main_v29 : Ref sig .tc := ⟨.hbm, 96, rfl⟩
abbrev main_cst_5 : Ref sig .tc := ⟨.hbm, 97, rfl⟩
abbrev main_v30 : Ref sig .tc := ⟨.hbm, 98, rfl⟩
abbrev main_v31 : Ref sig .tc := ⟨.hbm, 99, rfl⟩
abbrev main_v32 : Ref sig .tc := ⟨.hbm, 100, rfl⟩
abbrev main_v33 : Ref sig .tc := ⟨.hbm, 101, rfl⟩
abbrev main_v34 : Ref sig .tc := ⟨.hbm, 102, rfl⟩
abbrev main_c_6 : Ref sig .tc := ⟨.hbm, 103, rfl⟩
abbrev main_v35 : Ref sig .tc := ⟨.hbm, 104, rfl⟩
abbrev main_v36 : Ref sig .tc := ⟨.hbm, 105, rfl⟩
abbrev main_cst_7 : Ref sig .tc := ⟨.hbm, 106, rfl⟩
abbrev main_v37 : Ref sig .tc := ⟨.hbm, 107, rfl⟩
abbrev main_v38 : Ref sig .tc := ⟨.hbm, 108, rfl⟩
abbrev main_cst_8 : Ref sig .tc := ⟨.hbm, 109, rfl⟩
abbrev main_call4_v0 : Ref sig .tc := ⟨.hbm, 110, rfl⟩
abbrev main_call4_v1 : Ref sig .tc := ⟨.hbm, 111, rfl⟩
abbrev main_call4_v2 : Ref sig .tc := ⟨.hbm, 112, rfl⟩
abbrev main_v39 : Ref sig .tc := ⟨.hbm, 113, rfl⟩
abbrev main_v40 : Ref sig .tc := ⟨.hbm, 114, rfl⟩
abbrev main_v41 : Ref sig .tc := ⟨.hbm, 115, rfl⟩
abbrev main_v42 : Ref sig .tc := ⟨.hbm, 116, rfl⟩
abbrev main_cst_9 : Ref sig .tc := ⟨.hbm, 117, rfl⟩
abbrev main_call5_v0 : Ref sig .tc := ⟨.hbm, 118, rfl⟩
abbrev main_call5_v1 : Ref sig .tc := ⟨.hbm, 119, rfl⟩
abbrev main_call5_v2 : Ref sig .tc := ⟨.hbm, 120, rfl⟩
abbrev main_v43 : Ref sig .tc := ⟨.hbm, 121, rfl⟩
abbrev main_v44 : Ref sig .tc := ⟨.hbm, 122, rfl⟩
abbrev main_v45 : Ref sig .tc := ⟨.hbm, 123, rfl⟩
abbrev main_v46 : Ref sig .tc := ⟨.hbm, 124, rfl⟩
abbrev main_v47 : Ref sig .tc := ⟨.hbm, 125, rfl⟩
abbrev main_v48 : Ref sig .tc := ⟨.hbm, 126, rfl⟩
abbrev main_v49 : Ref sig .tc := ⟨.hbm, 127, rfl⟩

abbrev nD : Nat := 1
abbrev τ : Topo := Topo.v7x

variable {F : FTy → Type} [FloatOps F]
-- ==== Proof.Protocol.lean ====
/-
# The exchange of the two weight matrices, as a protocol

Four devices each hold one block of columns of `Wq` and one block of rows of `Wo`. Every device copies its two blocks
into the other three devices' buffers and then computes, block by block, with all four. This module writes down the
exchange: the semaphores, who raises them, by how much, and what each raise hands over.

| semaphore (on device `c`) | raised by | amount | what the waiter gets |
| --- | --- | --- | --- |
| barrier | each other device `p` | 1 | `p`'s slots number `c` of both buffers, to be written |
| `send a j` | `c`'s own copy to device `c + j + 1` | the block's credit | the share of `c`'s own slot lent to that copy |
| `recv a o`, `o ≠ c` | device `o`'s copy to `c` | the block's credit | slot `o` of buffer `a` on `c`, holding device `o`'s block |

`a` is `false` for the buffer of `Wq` blocks and `true` for the buffer of `Wo` blocks. Slot `o` of either buffer ends
up holding device `o`'s block on every device, so one closed array (`wqAll`, `woAll`) says what all slots hold.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Value
public import Idealize.ShloMosaic.Lib.Tactic

@[expose] public section

noncomputable section

namespace Cert.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## Ghost state: the pipeline's rounds and the exchange's, whose duties are named by the paying device -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at the start: any contents, every semaphore at zero. -/
def s₀ : MemSt nD τ sig (Elt F) := ⟨m, fun _ => 0, ρ⟩

/-! ## Devices and semaphores -/

/-- The device `k` places after `c`. -/
def pl (c : Dev nD) (k : Fin 4) : Dev nD := ⟨(c.val + k.val) % 4, Nat.mod_lt _ (by decide)⟩

theorem pl_zero (c : Dev nD) : pl c 0 = c := by revert c; decide
theorem pl_ne (c : Dev nD) (k : Fin 4) (h : k ≠ 0) : pl c k ≠ c := by revert c k; decide

/-- The barrier semaphore. -/
abbrev barS : Sem sig := (SemArray.scalar (sig.barrier 0 rfl) : Sems sig S_).sem

/-- The semaphores of the exchange on one device, numbered: the barrier, then the fourteen DMA semaphores in order. -/
abbrev csem (k : Fin 15) : SemLoc sig := if k.val = 0 then .reg barS else .dma ⟨k.val + 5, by have := k.isLt; show k.val + 5 < 20; omega⟩
abbrev osem (k : Fin 14) : SemLoc sig := .dma ⟨k.val + 6, by have := k.isLt; show k.val + 6 < 20; omega⟩
/-- The number of the semaphore counting the departures of the copy to device `c + j + 1`. -/
abbrev sendK (a : Bool) (j : Fin 3) : Fin 15 := if a then ⟨8 + j.val, by omega⟩ else ⟨1 + j.val, by omega⟩
/-- The number of the semaphore counting the arrival of device `o`'s block. -/
abbrev recvK (a : Bool) (o : Dev nD) : Fin 15 := if a then ⟨11 + o.val, by have : o.val < 4 := o.isLt; omega⟩ else ⟨4 + o.val, by have : o.val < 4 := o.isLt; omega⟩

abbrev kcell (ck : Dev nD × Fin 15) : GSem nD τ sig := ((ck.1 : Thread nD τ), csem ck.2)
abbrev barCell (c : Dev nD) : GSem nD τ sig := kcell (c, 0)
abbrev sendCell (a : Bool) (c : Dev nD) (j : Fin 3) : GSem nD τ sig := kcell (c, sendK a j)
abbrev recvCell (a : Bool) (c o : Dev nD) : GSem nD τ sig := kcell (c, recvK a o)

theorem csem_injective : Function.Injective csem := by decide

theorem kcell_injective : Function.Injective (kcell : Dev nD × Fin 15 → GSem nD τ sig) := by
  rintro ⟨c, k⟩ ⟨c', k'⟩ h
  have h1 : c = c' := congrArg (fun g : GSem nD τ sig => g.1.1) h
  subst h1
  exact congrArg (Prod.mk c) (csem_injective (congrArg Prod.snd h : csem k = csem k'))

theorem kcell_eq_iff (x y : Dev nD × Fin 15) : kcell x = kcell y ↔ x = y := kcell_injective.eq_iff

/-! ## The two buffers of blocks, and their slots -/

abbrev wqM : Memref sig .tc .vmem S4x768x512 .bf16 := Memref.whole cc0_scratch0
abbrev woM : Memref sig .tc .vmem S4x512x768 .bf16 := Memref.whole cc0_scratch1

/-- Slot `o` of the buffer of `Wq` blocks. -/
abbrev wqSlot (o : Dev nD) : Memref sig .tc .vmem S768x512 .bf16 :=
  (wqM.slice (Rect.unit (s := S4x768x512) (k0_off4 o) S1x768x512.size (k0_off4_inb o)) (fun _ => rfl)).squeeze S768x512 squeezes_S1x768x512_S768x512
/-- Slot `o` of the buffer of `Wo` blocks. -/
abbrev woSlot (o : Dev nD) : Memref sig .tc .vmem S512x768 .bf16 :=
  (woM.slice (Rect.unit (s := S4x512x768) (k0_off5 o) S1x512x768.size (k0_off5_inb o)) (fun _ => rfl)).squeeze S512x768 squeezes_S1x512x768_S512x768

/-- The elements of slot `o` are those of a rectangle: -/
theorem wqSlot_set (o : Dev nD) : ((wqSlot o).view.set : Finset S4x768x512.Idx) = (Rect.unit (s := S4x768x512) (k0_off4 o) S1x768x512.size (k0_off4_inb o)).set :=
  (View.set_reshape _ _).trans (View.set_slice_whole cc0_scratch0 _)
theorem woSlot_set (o : Dev nD) : ((woSlot o).view.set : Finset S4x512x768.Idx) = (Rect.unit (s := S4x512x768) (k0_off5 o) S1x512x768.size (k0_off5_inb o)).set :=
  (View.set_reshape _ _).trans (View.set_slice_whole cc0_scratch1 _)

/-- those whose first coordinate is `o`. -/
theorem mem_wqSlot (o : Dev nD) (i : S4x768x512.Idx) : Iff (i ∈ ((wqSlot o).view.set : Finset S4x768x512.Idx)) ((i 0).val = o.val) := by
  rw [wqSlot_set, Rect.mem_set_unit, k0_off4_eq]
  constructor
  · intro h; have := h 0; simp at this; omega
  · intro h a
    have := (i a).isLt
    fin_cases a <;> simp at this ⊢ <;> omega
theorem mem_woSlot (o : Dev nD) (i : S4x512x768.Idx) : Iff (i ∈ ((woSlot o).view.set : Finset S4x512x768.Idx)) ((i 0).val = o.val) := by
  rw [woSlot_set, Rect.mem_set_unit, k0_off5_eq]
  constructor
  · intro h; have := h 0; simp at this; omega
  · intro h a
    have := (i a).isLt
    fin_cases a <;> simp at this ⊢ <;> omega

/-! ## Contents -/

/-- What the staging buffers of the inputs hold on device `c`: the device's arrays. -/
def xStg (c : Dev nD) : FVec F S2x512x768 .bf16 := (win0_0.blk (0 : Fin 1)).view.read (Elt F) ((s₀ m ρ).mem ((c : Thread nD τ).loc main_arg0))
def wqStg (c : Dev nD) : FVec F S768x512 .bf16 := (win0_1.blk (0 : Fin 1)).view.read (Elt F) ((s₀ m ρ).mem ((c : Thread nD τ).loc main_arg1))
def kStg (c : Dev nD) : FVec F S2x512x32x64 .bf16 := (win0_2.blk (0 : Fin 1)).view.read (Elt F) ((s₀ m ρ).mem ((c : Thread nD τ).loc main_arg2))
def vStg (c : Dev nD) : FVec F S2x512x32x64 .bf16 := (win0_3.blk (0 : Fin 1)).view.read (Elt F) ((s₀ m ρ).mem ((c : Thread nD τ).loc main_arg3))
def woStg (c : Dev nD) : FVec F S512x768 .bf16 := (win0_4.blk (0 : Fin 1)).view.read (Elt F) ((s₀ m ρ).mem ((c : Thread nD τ).loc main_arg4))

/-- All four `Wq` blocks, block `o` in slot `o`; -/
def wqAll : FVec F S4x768x512 .bf16 := fun i => wqStg m ρ (i 0) (fun a => i a.succ)
/-- all four `Wo` blocks. -/
def woAll : FVec F S4x512x768 .bf16 := fun i => woStg m ρ (i 0) (fun a => i a.succ)

/-- Slot `o` of buffer `a` on device `c`, holding device `o`'s block, at share `q`. -/
def slotPts (a : Bool) (c o : Dev nD) (q : PosShare TreeShare) : sProp 𝕄 :=
  match a with
  | false => (wqSlot o).view.loc (c : Thread nD τ) ↦[(wqSlot o).view.set]{q} wqAll m ρ
  | true => (woSlot o).view.loc (c : Thread nD τ) ↦[(woSlot o).view.set]{q} woAll m ρ
/-- Slot `o` of buffer `a` on device `c`, holding anything. -/
def slotAny (a : Bool) (c o : Dev nD) : sProp (MT nD τ sig Unit (Elt F) ℕ UU ℕ) :=
  match a with
  | false => iprop(∃ f : Buf (Elt F) ((wqSlot o).view.loc (c : Thread nD τ)), (wqSlot o).view.loc (c : Thread nD τ) ↦[(wqSlot o).view.set]{fullShare} f)
  | true => iprop(∃ f : Buf (Elt F) ((woSlot o).view.loc (c : Thread nD τ)), (woSlot o).view.loc (c : Thread nD τ) ↦[(woSlot o).view.set]{fullShare} f)

instance slotPts_storable (a : Bool) (c o : Dev nD) (q) : BI.Storable (upEmb : UEmb _ 𝕄) (slotPts (F := F) m ρ a c o q) := by
  unfold slotPts; cases a <;> infer_instance
omit [FloatOps F] [Named F] in
instance slotAny_storable (a : Bool) (c o : Dev nD) : BI.Storable (upEmb : UEmb _ 𝕄) (slotAny (F := F) a c o) := by
  unfold slotAny; cases a <;> infer_instance

/-- A device's own slot is read by its three copies and by the device itself: four shares. -/
def lend (j : Fin 3) : PosShare TreeShare := if j.val = 0 then fullShare.left.left else if j.val = 1 then fullShare.left.right else fullShare.right.left
def keep : PosShare TreeShare := fullShare.right.right

/-- The credit of one block. -/
abbrev NW (a : Bool) : ℕ := if a then (woSlot 0).view.dmaCredit else (wqSlot 0).view.dmaCredit
theorem NW_pos (a : Bool) : 0 < NW a := by cases a <;> exact View.dmaCredit_pos _ (by decide)

/-! ## The schedule -/

/-- What a semaphore of the exchange is for. -/
inductive Role where
  | bar
  | send (a : Bool) (j : Fin 3)
  | recv (a : Bool) (o : Dev nD)
  | other
  deriving DecidableEq

/-- The role of a semaphore. -/
def role : SemLoc sig → Role
  | .reg _ => .bar
  | .dma q =>
    if h : q.val < 6 then .other
    else if h : q.val < 9 then .send false ⟨q.val - 6, by omega⟩
    else if h : q.val < 13 then .recv false ⟨q.val - 9, by show q.val - 9 < 4; omega⟩
    else if h : q.val < 16 then .send true ⟨q.val - 13, by omega⟩
    else .recv true ⟨q.val - 16, by have : q.val < 20 := q.isLt; show q.val - 16 < 4; omega⟩

theorem role_bar : role (csem 0) = .bar := rfl
theorem role_send (a : Bool) (j : Fin 3) : role (csem (sendK a j)) = .send a j := by revert a j; decide
theorem role_recv (a : Bool) (o : Dev nD) : role (csem (recvK a o)) = .recv a o := by revert a o; decide

/-- What device `p`'s signal hands device `c`: `p`'s slots number `c`. -/
def barPay (c p : Dev nD) : sProp (MT nD τ sig Unit (Elt F) ℕ UU ℕ) := iprop(slotAny false p c ∗ slotAny true p c)

/-- The exchange's single round. -/
def xRd : Rounds.Schedule (GSem nD τ sig) (Dev nD) 𝕄 where
  duties g r := if r = 0 ∧ g.1.2 = .tc then (match role g.2 with
    | .bar => Finset.univ.erase g.1.1
    | .send _ _ => {g.1.1}
    | .recv _ o => if o = g.1.1 then ∅ else {o}
    | .other => ∅) else ∅
  unitless _ := False
  amount g _ _ := match role g.2 with | .send a _ => NW a | .recv a _ => NW a | _ => 1
  payload g _ d := match role g.2 with
    | .bar => barPay g.1.1 d
    | .send a j => slotPts m ρ a g.1.1 g.1.1 (lend j)
    | .recv a o => slotPts m ρ a g.1.1 o fullShare
    | .other => iprop(emp)
  amount_pos g _ _ _ := by split <;> first | exact NW_pos _ | exact Nat.one_pos

instance xRd_payload_storable (g : GSem nD τ sig) (r : ℕ) (d : Dev nD) :
    BI.Storable (upEmb : UEmb _ 𝕄) ((xRd (F := F) m ρ).payload g r d) := by
  dsimp only [xRd]
  unfold barPay
  split <;> infer_instance

section Tables
variable (c : Dev nD)

theorem duties_bar : (xRd (F := F) m ρ).duties (barCell c) 0 = Finset.univ.erase c := rfl
theorem duties_send (a : Bool) (j : Fin 3) : (xRd (F := F) m ρ).duties (sendCell a c j) 0 = {c} := by
  dsimp only [xRd]; rw [if_pos ⟨rfl, rfl⟩, role_send]
theorem duties_recv (a : Bool) (o : Dev nD) (h : o ≠ c) : (xRd (F := F) m ρ).duties (recvCell a c o) 0 = {o} := by
  dsimp only [xRd]; rw [if_pos ⟨rfl, rfl⟩, role_recv]; exact if_neg h
theorem duties_own (a : Bool) : (xRd (F := F) m ρ).duties (recvCell a c c) 0 = ∅ := by
  dsimp only [xRd]; rw [if_pos ⟨rfl, rfl⟩, role_recv]; exact if_pos rfl
theorem duties_later (g : GSem nD τ sig) : ∀ r, 1 ≤ r → (xRd (F := F) m ρ).duties g r = ∅ :=
  fun r hr => by dsimp only [xRd]; rw [if_neg fun h => by omega]

theorem amount_bar (d : Dev nD) : (xRd (F := F) m ρ).amount (barCell c) 0 d = 1 := rfl
theorem amount_send (a : Bool) (j : Fin 3) (d : Dev nD) : (xRd (F := F) m ρ).amount (sendCell a c j) 0 d = NW a := by
  dsimp only [xRd]; rw [role_send]
theorem amount_recv (a : Bool) (o d : Dev nD) : (xRd (F := F) m ρ).amount (recvCell a c o) 0 d = NW a := by
  dsimp only [xRd]; rw [role_recv]

theorem expect_bar : (xRd (F := F) m ρ).expect (barCell c) 0 = 3 := by
  unfold Schedule.expect Schedule.amountOf
  rw [duties_bar, Finset.sum_congr rfl fun d _ => amount_bar m ρ c d, Finset.sum_const, Finset.card_erase_of_mem (Finset.mem_univ _), Finset.card_univ,
    Fintype.card_fin]; rfl
theorem expect_send (a : Bool) (j : Fin 3) : (xRd (F := F) m ρ).expect (sendCell a c j) 0 = NW a := by
  unfold Schedule.expect Schedule.amountOf; rw [duties_send, Finset.sum_singleton, amount_send]
theorem expect_recv (a : Bool) (o : Dev nD) (h : o ≠ c) : (xRd (F := F) m ρ).expect (recvCell a c o) 0 = NW a := by
  unfold Schedule.expect Schedule.amountOf; rw [duties_recv m ρ c a o h, Finset.sum_singleton, amount_recv]

theorem payload_bar (d : Dev nD) : (xRd (F := F) m ρ).payload (barCell c) 0 d = barPay c d := rfl
theorem payload_send (a : Bool) (j : Fin 3) (d : Dev nD) : (xRd (F := F) m ρ).payload (sendCell a c j) 0 d = slotPts m ρ a c c (lend j) := by
  dsimp only [xRd]; rw [role_send]
theorem payload_recv (a : Bool) (o d : Dev nD) : (xRd (F := F) m ρ).payload (recvCell a c o) 0 d = slotPts m ρ a c o fullShare := by
  dsimp only [xRd]; rw [role_recv]

theorem others_nodup : [pl c 1, pl c 2, pl c 3].Nodup := by revert c; decide
theorem others_eq : (Finset.univ.erase c : Finset (Dev nD)) = [pl c 1, pl c 2, pl c 3].toFinset := by revert c; decide
/-- What the barrier wait returns: the three other devices' slots number `c`. -/
theorem rest_bar : bigSep ((xRd (F := F) m ρ).duties (barCell c) 0 \ ∅) (fun d => (xRd (F := F) m ρ).payload (barCell c) 0 d)
    = iprop(barPay c (pl c 1) ∗ barPay c (pl c 2) ∗ barPay c (pl c 3)) := by
  rw [Finset.sdiff_empty, duties_bar, bigSep_eq_bigSepL_of_eq [pl c 1, pl c 2, pl c 3] (others_eq c) (others_nodup c)]
  rfl
theorem rest_send (a : Bool) (j : Fin 3) :
    bigSep ((xRd (F := F) m ρ).duties (sendCell a c j) 0 \ ∅) (fun d => (xRd (F := F) m ρ).payload (sendCell a c j) 0 d) = slotPts m ρ a c c (lend j) := by
  rw [Finset.sdiff_empty, duties_send, bigSep_singleton, payload_send]
theorem rest_recv (a : Bool) (o : Dev nD) (h : o ≠ c) :
    bigSep ((xRd (F := F) m ρ).duties (recvCell a c o) 0 \ ∅) (fun d => (xRd (F := F) m ρ).payload (recvCell a c o) 0 d) = slotPts m ρ a c o fullShare := by
  rw [Finset.sdiff_empty, duties_recv m ρ c a o h, bigSep_singleton, payload_recv]

end Tables

/-! ## What a device owes, and the order of waiting -/

/-- A unit of account on the exchange's cell `x`. -/
abbrev tl (x : Dev nD × Fin 15) (n : ℕ) : CellTallies nD τ sig Unit := tallyAt (kcell x) () n

/-- The arrivals device `c` still owes before its copy number `j` to the device `k` places on, last first. -/
def owed6 (c : Dev nD) : CellTallies nD τ sig Unit := 0
def owed5 (c : Dev nD) : CellTallies nD τ sig Unit := owed6 c + tl (pl c 3, recvK true c) (NW true)
def owed4 (c : Dev nD) : CellTallies nD τ sig Unit := owed5 c + tl (pl c 3, recvK false c) (NW false)
def owed3 (c : Dev nD) : CellTallies nD τ sig Unit := owed4 c + tl (pl c 2, recvK true c) (NW true)
def owed2 (c : Dev nD) : CellTallies nD τ sig Unit := owed3 c + tl (pl c 2, recvK false c) (NW false)
def owed1 (c : Dev nD) : CellTallies nD τ sig Unit := owed2 c + tl (pl c 1, recvK true c) (NW true)
def owed0 (c : Dev nD) : CellTallies nD τ sig Unit := owed1 c + tl (pl c 1, recvK false c) (NW false)
/-- What it owes at the start: the six arrivals and the three signals. -/
def O₂ (c : Dev nD) : CellTallies nD τ sig Unit := owed0 c + tl (pl c 3, 0) 1
def O₁ (c : Dev nD) : CellTallies nD τ sig Unit := O₂ c + tl (pl c 2, 0) 1
def O₀ (c : Dev nD) : CellTallies nD τ sig Unit := O₁ c + tl (pl c 1, 0) 1

def L (g : GSem nD τ sig) : Finset Unit := if g.1.2 = .tc then {()} else ∅
/-- Arrivals are waited for above the barrier, and the barrier above everything else. -/
def lv (g : GSem nD τ sig) (_ : Unit) : ℕ := match role g.2 with | .bar => 1 | .recv _ _ => 2 | _ => 0

theorem L_of_ne (g : GSem nD τ sig) (h : g.1.2 ≠ .tc) : L g = ∅ := if_neg h
theorem L_tc (c : Dev nD) (sm : SemLoc sig) : L ((c : Thread nD τ), sm) = {()} := if_pos rfl

/-- An owed unit is on one of the nine cells. -/
theorem tl_pos {x : Dev nD × Fin 15} {n : ℕ} {g : GSem nD τ sig} {u : Unit} (O : CellTallies nD τ sig Unit) (h : 0 < (O + tl x n) g u) :
    0 < O g u ∨ g = kcell x := by
  by_cases hg : g = kcell x
  · exact .inr hg
  · rw [Pi.add_apply, Finsupp.add_apply, tallyAt_apply, if_neg (fun h' => hg h'.1), Nat.add_zero] at h; exact .inl h

theorem owed0_pos {c : Dev nD} {g : GSem nD τ sig} {u : Unit} (h : 0 < owed0 c g u) : ∃ (a : Bool) (o p : Dev nD), g = recvCell a o p := by
  rcases tl_pos _ h with h | h
  · rcases tl_pos _ h with h | h
    · rcases tl_pos _ h with h | h
      · rcases tl_pos _ h with h | h
        · rcases tl_pos _ h with h | h
          · rcases tl_pos _ h with h | h
            · exact absurd h (Nat.lt_irrefl 0)
            · exact ⟨_, _, _, h⟩
          · exact ⟨_, _, _, h⟩
        · exact ⟨_, _, _, h⟩
      · exact ⟨_, _, _, h⟩
    · exact ⟨_, _, _, h⟩
  · exact ⟨_, _, _, h⟩

theorem O₀_pos {c : Dev nD} {g : GSem nD τ sig} {u : Unit} (h : 0 < O₀ c g u) :
    (∃ (a : Bool) (o p : Dev nD), g = recvCell a o p) ∨ ∃ p : Dev nD, g = barCell p := by
  rcases tl_pos _ h with h | h
  · rcases tl_pos _ h with h | h
    · rcases tl_pos _ h with h | h
      · exact .inl (owed0_pos h)
      · exact .inr ⟨_, h⟩
    · exact .inr ⟨_, h⟩
  · exact .inr ⟨_, h⟩

theorem lv_recv (a : Bool) (o p : Dev nD) : lv (recvCell a o p) () = 2 := by unfold lv; rw [role_recv]
theorem lv_bar (p : Dev nD) : lv (barCell p) () = 1 := rfl

omit [FloatOps F] [Named F] in
/-- A staging semaphore may be waited for whatever the device owes. -/
theorem mayWait_stage (c : Dev nD) (q : DmaSem sig) (hq : role (.dma q) = .other) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨a, o, p, rfl⟩ | ⟨p, rfl⟩ <;> exact Finset.mem_singleton_self _)
      (fun p hp => by rw [Finset.mem_singleton.mp hp]; dsimp only [lv]; rw [hq])
      (fun g u hg => by
        rcases O₀_pos hg with ⟨a, o, p, rfl⟩ | ⟨p, rfl⟩
        · rw [lv_recv]; decide
        · rw [lv_bar]; decide)
  · rw [MayWait_zero]; iintro -; iempintro

omit [FloatOps F] [Named F] in
/-- At its barrier wait a device owes only arrivals. -/
theorem mayWait_bar (c : Dev nD) : (levAts L lv : sProp 𝕄) ⊢ MayWait (c : Thread nD τ) (.reg barS) () (owed0 c) :=
  MayOwe.of_cut (L := L) (lev := lv) 1 (fun p hp => by rw [Finset.mem_singleton.mp hp, L_tc]; exact Finset.mem_singleton_self _)
    (fun g u hg => by obtain ⟨a, o, p, rfl⟩ := owed0_pos hg; exact Finset.mem_singleton_self _)
    (fun p hp => by rw [Finset.mem_singleton.mp hp]; exact le_of_eq (lv_bar c))
    (fun g u hg => by obtain ⟨a, o, p, rfl⟩ := owed0_pos hg; rw [lv_recv]; decide)

end Cert.Run

end
-- ==== Proof.Steps.lean ====
/-
# The exchange, step by step

One lemma per communication step of a device, in terms of the slots of `Protocol`: the signal to another device, the
barrier wait, a block's copy, the wait for a block, the wait for a copy's departure; and the loads and the store of a
slot. Nothing here is about the arithmetic of the kernel.
-/
module

public import proofs.«01_k».proof.Proof.Protocol
public import Idealize.ShloMosaic.Lib.ViewIndex
public import Idealize.ShloMosaic.Lib.Pipeline.ValueKit.Geometry

@[expose] public section

noncomputable section

namespace Cert.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

abbrev 𝒱₀ : Variants := Variants.none

/-! ## What every device knows of every cell -/

/-- Every cell's invariant, under the names `K`, and that every cell has reached round 0. -/
def records (K : Dev nD × Fin 15 → ℕ) : sProp 𝕄 :=
  iprop((bigSep Finset.univ fun ck : Dev nD × Fin 15 => cellInv ER (xRd m ρ) (K ck) (kcell ck))
    ∗ bigSep Finset.univ fun ck : Dev nD × Fin 15 => reached ER (kcell ck) 0)

instance records_persistent (K : Dev nD × Fin 15 → ℕ) : BI.Persistent (records m ρ K) := by unfold records; infer_instance

theorem records_inv (K : Dev nD × Fin 15 → ℕ) (ck : Dev nD × Fin 15) : records m ρ K ⊢ cellInv ER (xRd m ρ) (K ck) (kcell ck) :=
  sep_elim_left.trans (bigSep_elim (Finset.mem_univ ck))
theorem records_reached (K : Dev nD × Fin 15 → ℕ) (ck : Dev nD × Fin 15) : records m ρ K ⊢ reached ER (kcell ck) 0 :=
  sep_elim_right.trans (bigSep_elim (Finset.mem_univ ck))

section Steps
variable (K : Dev nD × Fin 15 → ℕ) (c : Dev nD) {α : Type} {Q : α → sProp (MT nD τ sig Unit (Elt F) ℕ UU ℕ)}

/-! ## The handshake -/

/-- The signal to the device `k` places on, which hands over this device's two slots of that number. -/
theorem wp_signal_pl (n : Dev nD) (k : Fin 4) (hk : k ≠ 0) (hn : n = pl c k) {k' : ℕ} (hk' : k' = 1)
    (O : CellTallies nD τ sig Unit) {O' : CellTallies nD τ sig Unit} (hO : O' = O + tl (pl c k, 0) 1) {W : Waits sig Unit}
    {kont : PUnit → Prog (TpuEff nD τ sig (Elt F) Λ₀ .tc) α} :
    iprop(records m ρ K ∗ owes (c : Thread nD τ) O' W ∗ dutyTok ER (barCell (pl c k)) 0 c ∗ slotAny false c (pl c k) ∗ slotAny true c (pl c k))
      ⊢ iprop((owes (c : Thread nD τ) O W -∗ wp frame (wpE (defs₀ (F := F)) 𝒱₀ (c : Thread nD τ) none) Set.univ (kont ⟨⟩) Q)
          -∗ wp frame (wpE (defs₀ (F := F)) 𝒱₀ (c : Thread nD τ) none) Set.univ (.op (.semSignal (n : Thread nD τ) barS k') kont) Q) := by
  subst hn hk' hO
  iintro ⟨#HR, HO, Ht, H1, H2⟩ Hk
  iapply (Rounds.wp_signal 𝒱₀ ER (xRd m ρ) (c : Thread nD τ) none (dst := (pl c k : Thread nD τ)) (κ := K (pl c k, 0))
      (d := c) (show c ∈ (xRd (F := F) m ρ).duties (barCell (pl c k)) 0 by
        rw [duties_bar]; exact Finset.mem_erase.mpr ⟨fun h => pl_ne c k hk h.symm, Finset.mem_univ _⟩) (amount_bar m ρ (pl c k) c) () O rfl)
    $$ [HO Ht H1 H2]
  · isplitr; · iapply (records_inv m ρ K (pl c k, 0)); iexact HR
    isplitl [HO]; · iexact HO
    isplitl [Ht]; · iexact Ht
    isplitl [H1 H2]
    · iapply (show barPay (pl c k) c ⊢ (xRd (F := F) m ρ).payload ((pl c k : Thread nD τ), SemLoc.reg barS) 0 c from Entails.refl _)
      unfold barPay
      isplitl [H1] <;> iassumption
    iapply (records_reached m ρ K (pl c k, 0)); iexact HR
  iexact Hk

/-- The barrier wait: the other devices' slots of this device's number. -/
theorem wp_wait_bar {k' : ℕ} (hk' : k' = 3) {W : Waits sig Unit} {kont : PUnit → Prog (TpuEff nD τ sig (Elt F) Λ₀ .tc) α} :
    iprop(records m ρ K ∗ levAts L lv ∗ owes (c : Thread nD τ) (owed0 c) W ∗ cred (tallyAt (barCell c) () 3) ∗ atPos ER (barCell c) 0 ∅ 0)
      ⊢ iprop(((owes (c : Thread nD τ) (owed0 c) (insert (SemLoc.reg barS, ()) W) ∗ atPos ER (barCell c) 1 ∅ 0
            ∗ barPay c (pl c 1) ∗ barPay c (pl c 2) ∗ barPay c (pl c 3))
          -∗ wp frame (wpE (defs₀ (F := F)) 𝒱₀ (c : Thread nD τ) none) Set.univ (kont ⟨⟩) Q)
          -∗ wp frame (wpE (defs₀ (F := F)) 𝒱₀ (c : Thread nD τ) none) Set.univ (.op (.semWait barS k') kont) Q) := by
  subst hk'
  iintro ⟨#HR, #Hlev, HO, Hc, Hat⟩ Hk
  iapply (Rounds.wp_wait_rest_token 𝒱₀ ER (xRd m ρ) (c : Thread nD τ) none (κ := K (c, 0))
      (wpE_semWait_eq 𝒱₀ (c : Thread nD τ) none Set.univ) (Set.mem_univ _) () (O := owed0 c) (W := W) (R := 0) (m := 0) (T := ∅)
      (by rw [Nat.zero_add]; exact (expect_bar m ρ c).symm)) $$ [Hc HO Hat]
  · isplitr; · iapply (records_inv m ρ K (c, 0)); iexact HR
    isplitl [Hc]; · iexact Hc
    isplitl [HO]; · iexact HO
    isplitr; · iapply (mayWait_bar c); iexact Hlev
    iexact Hat
  iintro ⟨HO, Hat, -, Hpay⟩
  ihave Hp := (show bigSep ((xRd (F := F) m ρ).duties ((c : Thread nD τ), SemLoc.reg barS) 0 \ ∅)
        (fun d => (xRd (F := F) m ρ).payload ((c : Thread nD τ), SemLoc.reg barS) 0 d)
      ⊢ iprop(barPay c (pl c 1) ∗ barPay c (pl c 2) ∗ barPay c (pl c 3)) from Entails.of_eq (rest_bar m ρ c)) $$ Hpay
  iapply Hk
  isplitl [HO]; · iexact HO
  isplitl [Hat]; · iexact Hat
  iexact Hp

/-! ## The copies -/

theorem recv_dma (a : Bool) (o : Dev nD) : ∃ q : DmaSem sig, csem (recvK a o) = .dma q := by
  revert a o; decide
theorem amount_wqSlot (o p : Dev nD) : (wqSlot o).view.amount (csem (recvK false p)) = NW false := by
  obtain ⟨q, e⟩ := recv_dma false p; rw [e]; rfl
theorem amount_woSlot (o p : Dev nD) : (woSlot o).view.amount (csem (recvK true p)) = NW true := by
  obtain ⟨q, e⟩ := recv_dma true p; rw [e]; rfl

theorem pl_succ_ne (j : Fin 3) : c ≠ pl c j.succ := fun h => pl_ne c j.succ (Fin.succ_ne_zero j) h.symm

/-- A slot written with what another device's slot of the same number holds. -/
theorem wq_landed (n o : Dev nD) (fd : Buf (Elt F) ((wqSlot o).view.loc (n : Thread nD τ))) :
    ((wqSlot o).view.loc (n : Thread nD τ) ↦[(wqSlot o).view.set]{fullShare}
        ((wqSlot o).view.write (Elt F) fd ((wqSlot o).view.read (Elt F) (wqAll m ρ)) Finset.univ) : sProp 𝕄) = slotPts m ρ false n o fullShare := by
  unfold slotPts
  refine pointsTo_congr fun i hi => ?_
  obtain ⟨x, -, rfl⟩ := Finset.mem_map.mp hi
  exact View.eq_of_read_eq (congrFun (View.read_write_univ (v := (wqSlot o).view) (Val := Elt F) fd _) x)
theorem wo_landed (n o : Dev nD) (fd : Buf (Elt F) ((woSlot o).view.loc (n : Thread nD τ))) :
    ((woSlot o).view.loc (n : Thread nD τ) ↦[(woSlot o).view.set]{fullShare}
        ((woSlot o).view.write (Elt F) fd ((woSlot o).view.read (Elt F) (woAll m ρ)) Finset.univ) : sProp 𝕄) = slotPts m ρ true n o fullShare := by
  unfold slotPts
  refine pointsTo_congr fun i hi => ?_
  obtain ⟨x, -, rfl⟩ := Finset.mem_map.mp hi
  exact View.eq_of_read_eq (congrFun (View.read_write_univ (v := (woSlot o).view) (Val := Elt F) fd _) x)

/-- The copy of this device's `Wq` block to the device `j + 1` places on. -/
theorem wp_send_wq (j : Fin 3) (k : Fin 4) (hk : k = j.succ) (n : Dev nD) (hn : n = pl c k) {src dst : Memref sig .tc .vmem S768x512 .bf16} (hs : src = wqSlot c) (hd : dst = wqSlot c)
    {sS sR : SemLoc sig} (hsS : sS = csem (sendK false j)) (hsR : sR = csem (recvK false c))
    {hsc : (dst : Memref sig (Dev.tc n : Thread nD τ).2.kind .vmem S768x512 .bf16).view.ref.isScScratch = false}
    {hsrc : src.view.WordExact} {hdst : dst.view.WordExact} {hsem : DmaTarget.Typed .vmem sR (.remote (Dev.tc n : Thread nD τ) dst sS hsc)}
    (O : CellTallies nD τ sig Unit) {O' : CellTallies nD τ sig Unit} (hO : O' = O + tl (pl c k, recvK false c) (NW false)) {W : Waits sig Unit}
    {kont : PUnit → Prog (TpuEff nD τ sig (Elt F) Λ₀ .tc) α} :
    iprop(records m ρ K ∗ owes (c : Thread nD τ) O' W ∗ dutyTok ER (sendCell false c j) 0 c ∗ dutyTok ER (recvCell false (pl c k) c) 0 c
        ∗ slotPts m ρ false c c (lend j) ∗ slotAny false (pl c k) c)
      ⊢ iprop(((cred (tallyAt (sendCell false c j) () (NW false)) ∗ owes (c : Thread nD τ) O W)
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma src (.remote (Dev.tc n : Thread nD τ) dst sS hsc) sR hsrc hdst hsem) kont) Q) := by
  subst hk hn hs hd hsS hsR hO
  iintro ⟨#HR, HO, HtS, HtR, Hsrc, Hdst⟩ Hk
  unfold slotAny slotPts
  icases Hdst with ⟨%fd, Hdst⟩
  iapply (Rounds.wp_send_pointsTo 𝒱₀ ER (xRd m ρ) (c : Thread nD τ) none (κ₁ := K (c, sendK false j)) (κ₂ := K (pl c j.succ, recvK false c))
    (r₁ := 0) (r₂ := 0) (d₁ := c) (d₂ := c) (fs := wqAll m ρ) (fd := fd) (q := lend j)
    (by rw [duties_send]; exact Finset.mem_singleton_self _) (by rw [duties_recv m ρ _ _ _ (pl_succ_ne c j)]; exact Finset.mem_singleton_self _)
    () () (NW false) (amount_wqSlot c c) (amount_send m ρ c false j c) (amount_recv m ρ (pl c j.succ) false c c) O rfl (W := W)
    (by rw [payload_send]; exact BI.Entails.refl _)
    (by rw [payload_recv]; exact Entails.of_eq (wq_landed m ρ (pl c j.succ) c fd))) $$ [HO HtS HtR Hsrc Hdst]
  · isplitr; · iapply (records_inv m ρ K (c, sendK false j)); iexact HR
    isplitr; · iapply (records_inv m ρ K (pl c j.succ, recvK false c)); iexact HR
    isplitl [Hsrc]; · iexact Hsrc
    isplitl [Hdst]; · iexact Hdst
    isplitl [HO]; · iexact HO
    isplitl [HtS]; · iexact HtS
    isplitr; · iapply (records_reached m ρ K (c, sendK false j)); iexact HR
    isplitl [HtR]; · iexact HtR
    iapply (records_reached m ρ K (pl c j.succ, recvK false c)); iexact HR
  iexact Hk

/-- The copy of this device's `Wo` block to the device `j + 1` places on. -/
theorem wp_send_wo (j : Fin 3) (k : Fin 4) (hk : k = j.succ) (n : Dev nD) (hn : n = pl c k) {src dst : Memref sig .tc .vmem S512x768 .bf16} (hs : src = woSlot c) (hd : dst = woSlot c)
    {sS sR : SemLoc sig} (hsS : sS = csem (sendK true j)) (hsR : sR = csem (recvK true c))
    {hsc : (dst : Memref sig (Dev.tc n : Thread nD τ).2.kind .vmem S512x768 .bf16).view.ref.isScScratch = false}
    {hsrc : src.view.WordExact} {hdst : dst.view.WordExact} {hsem : DmaTarget.Typed .vmem sR (.remote (Dev.tc n : Thread nD τ) dst sS hsc)}
    (O : CellTallies nD τ sig Unit) {O' : CellTallies nD τ sig Unit} (hO : O' = O + tl (pl c k, recvK true c) (NW true)) {W : Waits sig Unit}
    {kont : PUnit → Prog (TpuEff nD τ sig (Elt F) Λ₀ .tc) α} :
    iprop(records m ρ K ∗ owes (c : Thread nD τ) O' W ∗ dutyTok ER (sendCell true c j) 0 c ∗ dutyTok ER (recvCell true (pl c k) c) 0 c
        ∗ slotPts m ρ true c c (lend j) ∗ slotAny true (pl c k) c)
      ⊢ iprop(((cred (tallyAt (sendCell true c j) () (NW true)) ∗ owes (c : Thread nD τ) O W)
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma src (.remote (Dev.tc n : Thread nD τ) dst sS hsc) sR hsrc hdst hsem) kont) Q) := by
  subst hk hn hs hd hsS hsR hO
  iintro ⟨#HR, HO, HtS, HtR, Hsrc, Hdst⟩ Hk
  unfold slotAny slotPts
  icases Hdst with ⟨%fd, Hdst⟩
  iapply (Rounds.wp_send_pointsTo 𝒱₀ ER (xRd m ρ) (c : Thread nD τ) none (κ₁ := K (c, sendK true j)) (κ₂ := K (pl c j.succ, recvK true c))
    (r₁ := 0) (r₂ := 0) (d₁ := c) (d₂ := c) (fs := woAll m ρ) (fd := fd) (q := lend j)
    (by rw [duties_send]; exact Finset.mem_singleton_self _) (by rw [duties_recv m ρ _ _ _ (pl_succ_ne c j)]; exact Finset.mem_singleton_self _)
    () () (NW true) (amount_woSlot c c) (amount_send m ρ c true j c) (amount_recv m ρ (pl c j.succ) true c c) O rfl (W := W)
    (by rw [payload_send]; exact BI.Entails.refl _)
    (by rw [payload_recv]; exact Entails.of_eq (wo_landed m ρ (pl c j.succ) c fd))) $$ [HO HtS HtR Hsrc Hdst]
  · isplitr; · iapply (records_inv m ρ K (c, sendK true j)); iexact HR
    isplitr; · iapply (records_inv m ρ K (pl c j.succ, recvK true c)); iexact HR
    isplitl [Hsrc]; · iexact Hsrc
    isplitl [Hdst]; · iexact Hdst
    isplitl [HO]; · iexact HO
    isplitl [HtS]; · iexact HtS
    isplitr; · iapply (records_reached m ρ K (c, sendK true j)); iexact HR
    isplitl [HtR]; · iexact HtR
    iapply (records_reached m ρ K (pl c j.succ, recvK true c)); iexact HR
  iexact Hk

/-- A wait on one of the DMA semaphores for its whole round: what the round hands over. -/
theorem wp_wait_dma (k : Fin 15) (N : ℕ) (hexp : (xRd m ρ).expect (kcell (c, k)) 0 = N) (R : sProp 𝕄)
    (hrest : bigSep ((xRd (F := F) m ρ).duties (kcell (c, k)) 0 \ ∅) (fun d => (xRd (F := F) m ρ).payload (kcell (c, k)) 0 d) = R)
    {sm : DmaSem sig} (hsm : SemLoc.dma sm = csem k) {s : Shape} {src dst : Memref sig .tc .vmem s .bf16} (hN : dst.view.dmaCredit = N)
    {hsrc : src.view.WordExact} {hdst : dst.view.WordExact} {W : Waits sig Unit} {kont : PUnit → Prog (TpuEff nD τ sig (Elt F) Λ₀ .tc) α} :
    iprop(records m ρ K ∗ owes (c : Thread nD τ) 0 W ∗ cred (tallyAt (kcell (c, k)) () N) ∗ atPos ER (kcell (c, k)) 0 ∅ 0)
      ⊢ iprop(((owes (c : Thread nD τ) 0 (insert (csem k, ()) W) ∗ atPos ER (kcell (c, k)) 1 ∅ 0 ∗ R)
          -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 sm src dst hsrc hdst) kont) Q) := by
  subst hN
  iintro ⟨#HR, HO, Hc, Hat⟩ Hk
  iapply (Rounds.wp_wait_rest_token 𝒱₀ ER (xRd m ρ) (c : Thread nD τ) none (κ := K (c, k)) (sm := csem k)
      (by rw [← hsm]; exact wpE_waitDma2_eq 𝒱₀ (c : Thread nD τ) none Set.univ) (Set.mem_univ _) () (O := 0) (W := W) (R := 0) (m := 0) (T := ∅)
      (by rw [Nat.zero_add]; exact hexp.symm)) $$ [Hc HO Hat]
  · isplitr; · iapply (records_inv m ρ K (c, k)); iexact HR
    isplitl [Hc]; · iexact Hc
    isplitl [HO]; · iexact HO
    isplitr; · rw [MayWait_zero]; iempintro
    iexact Hat
  iintro ⟨HO, Hat, -, Hpay⟩
  ihave Hp := (Entails.of_eq hrest) $$ Hpay
  iapply Hk
  isplitl [HO]; · iexact HO
  isplitl [Hat]; · iexact Hat
  iexact Hp

/-! ## Loads and stores of a slot -/

/-- Device `o`'s `Wq` block and its `Wo` block, as a load of their slot returns them. -/
def wqVal (o : Dev nD) : FVec F S1x768x512 .bf16 := fun i => wqStg m ρ o (fun a => i a.succ)
def woVal (o : Dev nD) : FVec F S1x512x768 .bf16 := fun i => woStg m ρ o (fun a => i a.succ)

theorem wq_within (o : Dev nD) {off : Fin 3 → ℕ} (h : off = ![o.val, 0, 0]) (inb : ∀ a, off a + S1x768x512.size a ≤ S4x768x512.size a) :
    ((wqM.access (Rect.unit (s := S4x768x512) off S1x768x512.size inb)).set : Finset S4x768x512.Idx) ⊆ (wqSlot o).view.set := by
  subst h
  intro i hi
  have hi' : i ∈ (Rect.unit (s := S4x768x512) ![o.val, 0, 0] S1x768x512.size inb).set := (View.set_slice_whole cc0_scratch0 _) ▸ hi
  have := Rect.mem_set_unit.mp hi' 0
  rw [mem_wqSlot]; simp at this; omega
theorem wo_within (o : Dev nD) {off : Fin 3 → ℕ} (h : off = ![o.val, 0, 0]) (inb : ∀ a, off a + S1x512x768.size a ≤ S4x512x768.size a) :
    ((woM.access (Rect.unit (s := S4x512x768) off S1x512x768.size inb)).set : Finset S4x512x768.Idx) ⊆ (woSlot o).view.set := by
  subst h
  intro i hi
  have hi' : i ∈ (Rect.unit (s := S4x512x768) ![o.val, 0, 0] S1x512x768.size inb).set := (View.set_slice_whole cc0_scratch1 _) ▸ hi
  have := Rect.mem_set_unit.mp hi' 0
  rw [mem_woSlot]; simp at this; omega

theorem wq_disjoint (o : Dev nD) (_ : o ∈ Finset.univ) (o' : Dev nD) (_ : o' ∈ Finset.univ) (h : o ≠ o') :
    Disjoint ((wqSlot o).view.set : Finset S4x768x512.Idx) ((wqSlot o').view.set : Finset S4x768x512.Idx) :=
  Finset.disjoint_left.mpr fun i hi hi' => h (Fin.ext (((mem_wqSlot o i).mp hi).symm.trans ((mem_wqSlot o' i).mp hi')))

/-- An element of slot `o`, read through the rectangle the program spells. -/
theorem wq_emb (o : Dev nD) {off : Fin 3 → ℕ} (h : off = ![o.val, 0, 0]) (inb : ∀ a, off a + S1x768x512.size a ≤ S4x768x512.size a) (x : S1x768x512.Idx) :
    wqAll m ρ ((Rect.unit (s := S4x768x512) off S1x768x512.size inb).emb x) = wqVal m ρ o x := by
  subst h
  have h0 : ((Rect.unit (s := S4x768x512) ![o.val, 0, 0] S1x768x512.size inb).emb x) 0 = o :=
    Fin.ext (by rw [ValueKit.rect_emb_unit_val]; have := (x 0).isLt; simp at this ⊢)
  unfold wqAll wqVal
  rw [h0]
  refine congrArg _ (funext fun a => Fin.ext ?_)
  rw [ValueKit.rect_emb_unit_val]
  fin_cases a <;> simp

/-- A load of slot `o`. -/
theorem wp_load_wq (o : Dev nD) (q : PosShare TreeShare) {off : Fin 3 → ℕ} (h : off = ![o.val, 0, 0]) {inb : ∀ a, off a + S1x768x512.size a ≤ S4x768x512.size a}
    {hl : (wqM).view.LoadsAt (Rect.unit (s := S4x768x512) off S1x768x512.size inb).toLoadRect}
    {kont : FVec F S1x768x512 .bf16 → Prog (TpuEff nD τ sig (Elt F) Λ₀ .tc) α} :
    slotPts m ρ false c o q
      ⊢ iprop((slotPts m ρ false c o q -∗ wp frame (wpE (defs₀ (F := F)) 𝒱₀ (c : Thread nD τ) none) Set.univ (kont (wqVal m ρ o)) Q)
          -∗ wp frame (wpE (defs₀ (F := F)) 𝒱₀ (c : Thread nD τ) none) Set.univ (.op (.load wqM (Rect.unit (s := S4x768x512) off S1x768x512.size inb).toLoadRect hl) kont) Q) := by
  have e : (wqM.access (Rect.unit (s := S4x768x512) off S1x768x512.size inb)).read (Elt F) (wqAll m ρ) = wqVal m ρ o :=
    funext fun x => wq_emb m ρ o h inb x
  rw [← e]
  unfold slotPts
  exact wp_load_rect 𝒱₀ (c : Thread nD τ) none Set.univ (m := wqM) (r := Rect.unit (s := S4x768x512) off S1x768x512.size inb) (wq_within o h inb)

/-- A load of a slot whose contents do not matter. -/
theorem wp_load_any_wq (o : Dev nD) {off : Fin 3 → ℕ} (h : off = ![o.val, 0, 0]) {inb : ∀ a, off a + S1x768x512.size a ≤ S4x768x512.size a}
    {hl : (wqM).view.LoadsAt (Rect.unit (s := S4x768x512) off S1x768x512.size inb).toLoadRect}
    {kont : FVec F S1x768x512 .bf16 → Prog (TpuEff nD τ sig (Elt F) Λ₀ .tc) α} :
    slotAny false c o
      ⊢ iprop((∀ v, slotAny false c o -∗ wp frame (wpE (defs₀ (F := F)) 𝒱₀ (c : Thread nD τ) none) Set.univ (kont v) Q)
          -∗ wp frame (wpE (defs₀ (F := F)) 𝒱₀ (c : Thread nD τ) none) Set.univ (.op (.load wqM (Rect.unit (s := S4x768x512) off S1x768x512.size inb).toLoadRect hl) kont) Q) := by
  unfold slotAny
  iintro ⟨%f, H⟩ Hk
  iapply (wp_load_rect 𝒱₀ (c : Thread nD τ) none Set.univ (m := wqM) (r := Rect.unit (s := S4x768x512) off S1x768x512.size inb) (wq_within o h inb)) $$ [H]
  · iexact H
  iintro H
  iapply Hk
  iexists f
  iexact H

/-- The store of slot `o` with device `o`'s block. -/
theorem wp_store_wq (o : Dev nD) {off : Fin 3 → ℕ} (h : off = ![o.val, 0, 0]) {inb : ∀ a, off a + S1x768x512.size a ≤ S4x768x512.size a} (w : FVec F S1x768x512 .bf16)
    (hw : w = wqVal m ρ o)
    {hx : (wqM.access (Rect.unit (s := S4x768x512) off S1x768x512.size inb)).Stores Finset.univ}
    {hm : Finset.univ = Finset.univ ∨ ∀ a, (Rect.unit (s := S4x768x512) off S1x768x512.size inb).stride a = 1}
    {kont : PUnit → Prog (TpuEff nD τ sig (Elt F) Λ₀ .tc) α} :
    slotAny false c o
      ⊢ iprop((slotPts m ρ false c o fullShare -∗ wp frame (wpE (defs₀ (F := F)) 𝒱₀ (c : Thread nD τ) none) Set.univ (kont ⟨⟩) Q)
          -∗ wp frame (wpE (defs₀ (F := F)) 𝒱₀ (c : Thread nD τ) none) Set.univ
            (.op (.store wqM (Rect.unit (s := S4x768x512) off S1x768x512.size inb) w Finset.univ hx hm) kont) Q) := by
  subst hw
  unfold slotAny
  iintro ⟨%f, H⟩ Hk
  iapply (wp_store 𝒱₀ (c : Thread nD τ) none Set.univ (m := wqM) (r := Rect.unit (s := S4x768x512) off S1x768x512.size inb) (hx := hx) (hm := hm) (wq_within o h inb)) $$ [H]
  · iexact H
  iintro H
  iapply Hk
  unfold slotPts
  iapply (Entails.of_eq (pointsTo_congr (f := (wqM.access (Rect.unit (s := S4x768x512) off S1x768x512.size inb)).write (Elt F) f (wqVal m ρ o) Finset.univ)
    (g := wqAll m ρ) (I := (wqSlot o).view.set) (q := fullShare) (ℓ := (wqSlot o).view.loc (c : Thread nD τ)) fun i hi => ?_))
  · subst h
    have hi' : i ∈ (wqM.access (Rect.unit (s := S4x768x512) ![o.val, 0, 0] S1x768x512.size inb)).set := by
      have : i ∈ (Rect.unit (s := S4x768x512) ![o.val, 0, 0] S1x768x512.size inb).set := by
        rw [Rect.mem_set_unit]
        have h0 := (mem_wqSlot o i).mp hi
        intro a
        have := (i a).isLt
        fin_cases a <;> simp at this ⊢ <;> omega
      rw [← View.set_slice_whole cc0_scratch0 (Rect.unit (s := S4x768x512) ![o.val, 0, 0] S1x768x512.size inb)] at this
      exact this
    obtain ⟨x, -, rfl⟩ := Finset.mem_map.mp hi'
    rw [View.write_emb_of_mem _ _ (Finset.mem_univ x)]
    exact (wq_emb m ρ o rfl inb x).symm
  iexact H

/-- The whole buffer is its four slots; -/
theorem wq_split : iprop(∃ f : Buf (Elt F) ((c : Thread nD τ).loc cc0_scratch0), (c : Thread nD τ).loc cc0_scratch0 ↦{fullShare} f)
    ⊢ (bigSep Finset.univ fun o : Dev nD => slotAny (F := F) false c o) := by
  iintro ⟨%f, H⟩
  iapply (show ((c : Thread nD τ).loc cc0_scratch0 ↦{fullShare} f : sProp 𝕄) ⊢ (bigSep Finset.univ fun o : Dev nD => slotAny (F := F) false c o) from ?_)
  · have hu : (Finset.univ : Finset S4x768x512.Idx) = (Finset.univ : Finset (Dev nD)).biUnion fun o => ((wqSlot o).view.set : Finset S4x768x512.Idx) := by
      ext i; simp only [Finset.mem_univ, Finset.mem_biUnion, true_and, true_iff]; exact ⟨i 0, (mem_wqSlot _ i).mpr rfl⟩
    have e : ((c : Thread nD τ).loc cc0_scratch0 ↦{fullShare} f : sProp 𝕄) = bigSep Finset.univ fun o : Dev nD => ((c : Thread nD τ).loc cc0_scratch0 ↦[((wqSlot o).view.set : Finset S4x768x512.Idx)]{fullShare} f : sProp 𝕄) := by
      rw [← pointsTo_biUnion (ℓ := (c : Thread nD τ).loc cc0_scratch0) Finset.univ (fun o => ((wqSlot o).view.set : Finset S4x768x512.Idx)) wq_disjoint, ← hu]
    rw [e]
    refine bigSep_mono fun o _ => ?_
    exact exists_intro (Φ := fun f : Buf (Elt F) ((wqSlot o).view.loc (c : Thread nD τ)) => ((wqSlot o).view.loc (c : Thread nD τ) ↦[(wqSlot o).view.set]{fullShare} f : sProp 𝕄)) f
  iexact H

/-- and the four slots are the whole buffer. -/
theorem wq_join : (bigSep Finset.univ fun o : Dev nD => slotPts m ρ false c o fullShare)
    ⊢ iprop(∃ f : Buf (Elt F) ((c : Thread nD τ).loc cc0_scratch0), (c : Thread nD τ).loc cc0_scratch0 ↦{fullShare} f) := by
  have hu : (Finset.univ : Finset S4x768x512.Idx) = (Finset.univ : Finset (Dev nD)).biUnion fun o => ((wqSlot o).view.set : Finset S4x768x512.Idx) := by
    ext i; simp only [Finset.mem_univ, Finset.mem_biUnion, true_and, true_iff]; exact ⟨i 0, (mem_wqSlot _ i).mpr rfl⟩
  have e : ((c : Thread nD τ).loc cc0_scratch0 ↦{fullShare} wqAll m ρ : sProp 𝕄) = bigSep Finset.univ fun o : Dev nD => slotPts m ρ false c o fullShare := by
    unfold slotPts
    rw [← pointsTo_biUnion (ℓ := (c : Thread nD τ).loc cc0_scratch0) Finset.univ (fun o => ((wqSlot o).view.set : Finset S4x768x512.Idx)) wq_disjoint, ← hu]
  rw [← e]
  iintro H
  iexists wqAll m ρ
  iexact H

theorem wo_disjoint (o : Dev nD) (_ : o ∈ Finset.univ) (o' : Dev nD) (_ : o' ∈ Finset.univ) (h : o ≠ o') :
    Disjoint ((woSlot o).view.set : Finset S4x512x768.Idx) ((woSlot o').view.set : Finset S4x512x768.Idx) :=
  Finset.disjoint_left.mpr fun i hi hi' => h (Fin.ext (((mem_woSlot o i).mp hi).symm.trans ((mem_woSlot o' i).mp hi')))

/-- An element of slot `o`, read through the rectangle the program spells. -/
theorem wo_emb (o : Dev nD) {off : Fin 3 → ℕ} (h : off = ![o.val, 0, 0]) (inb : ∀ a, off a + S1x512x768.size a ≤ S4x512x768.size a) (x : S1x512x768.Idx) :
    woAll m ρ ((Rect.unit (s := S4x512x768) off S1x512x768.size inb).emb x) = woVal m ρ o x := by
  subst h
  have h0 : ((Rect.unit (s := S4x512x768) ![o.val, 0, 0] S1x512x768.size inb).emb x) 0 = o :=
    Fin.ext (by rw [ValueKit.rect_emb_unit_val]; have := (x 0).isLt; simp at this ⊢)
  unfold woAll woVal
  rw [h0]
  refine congrArg _ (funext fun a => Fin.ext ?_)
  rw [ValueKit.rect_emb_unit_val]
  fin_cases a <;> simp

/-- A load of slot `o`. -/
theorem wp_load_wo (o : Dev nD) (q : PosShare TreeShare) {off : Fin 3 → ℕ} (h : off = ![o.val, 0, 0]) {inb : ∀ a, off a + S1x512x768.size a ≤ S4x512x768.size a}
    {hl : (woM).view.LoadsAt (Rect.unit (s := S4x512x768) off S1x512x768.size inb).toLoadRect}
    {kont : FVec F S1x512x768 .bf16 → Prog (TpuEff nD τ sig (Elt F) Λ₀ .tc) α} :
    slotPts m ρ true c o q
      ⊢ iprop((slotPts m ρ true c o q -∗ wp frame (wpE (defs₀ (F := F)) 𝒱₀ (c : Thread nD τ) none) Set.univ (kont (woVal m ρ o)) Q)
          -∗ wp frame (wpE (defs₀ (F := F)) 𝒱₀ (c : Thread nD τ) none) Set.univ (.op (.load woM (Rect.unit (s := S4x512x768) off S1x512x768.size inb).toLoadRect hl) kont) Q) := by
  have e : (woM.access (Rect.unit (s := S4x512x768) off S1x512x768.size inb)).read (Elt F) (woAll m ρ) = woVal m ρ o :=
    funext fun x => wo_emb m ρ o h inb x
  rw [← e]
  unfold slotPts
  exact wp_load_rect 𝒱₀ (c : Thread nD τ) none Set.univ (m := woM) (r := Rect.unit (s := S4x512x768) off S1x512x768.size inb) (wo_within o h inb)

/-- A load of a slot whose contents do not matter. -/
theorem wp_load_any_wo (o : Dev nD) {off : Fin 3 → ℕ} (h : off = ![o.val, 0, 0]) {inb : ∀ a, off a + S1x512x768.size a ≤ S4x512x768.size a}
    {hl : (woM).view.LoadsAt (Rect.unit (s := S4x512x768) off S1x512x768.size inb).toLoadRect}
    {kont : FVec F S1x512x768 .bf16 → Prog (TpuEff nD τ sig (Elt F) Λ₀ .tc) α} :
    slotAny true c o
      ⊢ iprop((∀ v, slotAny true c o -∗ wp frame (wpE (defs₀ (F := F)) 𝒱₀ (c : Thread nD τ) none) Set.univ (kont v) Q)
          -∗ wp frame (wpE (defs₀ (F := F)) 𝒱₀ (c : Thread nD τ) none) Set.univ (.op (.load woM (Rect.unit (s := S4x512x768) off S1x512x768.size inb).toLoadRect hl) kont) Q) := by
  unfold slotAny
  iintro ⟨%f, H⟩ Hk
  iapply (wp_load_rect 𝒱₀ (c : Thread nD τ) none Set.univ (m := woM) (r := Rect.unit (s := S4x512x768) off S1x512x768.size inb) (wo_within o h inb)) $$ [H]
  · iexact H
  iintro H
  iapply Hk
  iexists f
  iexact H

/-- The store of slot `o` with device `o`'s block. -/
theorem wp_store_wo (o : Dev nD) {off : Fin 3 → ℕ} (h : off = ![o.val, 0, 0]) {inb : ∀ a, off a + S1x512x768.size a ≤ S4x512x768.size a} (w : FVec F S1x512x768 .bf16)
    (hw : w = woVal m ρ o)
    {hx : (woM.access (Rect.unit (s := S4x512x768) off S1x512x768.size inb)).Stores Finset.univ}
    {hm : Finset.univ = Finset.univ ∨ ∀ a, (Rect.unit (s := S4x512x768) off S1x512x768.size inb).stride a = 1}
    {kont : PUnit → Prog (TpuEff nD τ sig (Elt F) Λ₀ .tc) α} :
    slotAny true c o
      ⊢ iprop((slotPts m ρ true c o fullShare -∗ wp frame (wpE (defs₀ (F := F)) 𝒱₀ (c : Thread nD τ) none) Set.univ (kont ⟨⟩) Q)
          -∗ wp frame (wpE (defs₀ (F := F)) 𝒱₀ (c : Thread nD τ) none) Set.univ
            (.op (.store woM (Rect.unit (s := S4x512x768) off S1x512x768.size inb) w Finset.univ hx hm) kont) Q) := by
  subst hw
  unfold slotAny
  iintro ⟨%f, H⟩ Hk
  iapply (wp_store 𝒱₀ (c : Thread nD τ) none Set.univ (m := woM) (r := Rect.unit (s := S4x512x768) off S1x512x768.size inb) (hx := hx) (hm := hm) (wo_within o h inb)) $$ [H]
  · iexact H
  iintro H
  iapply Hk
  unfold slotPts
  iapply (Entails.of_eq (pointsTo_congr (f := (woM.access (Rect.unit (s := S4x512x768) off S1x512x768.size inb)).write (Elt F) f (woVal m ρ o) Finset.univ)
    (g := woAll m ρ) (I := (woSlot o).view.set) (q := fullShare) (ℓ := (woSlot o).view.loc (c : Thread nD τ)) fun i hi => ?_))
  · subst h
    have hi' : i ∈ (woM.access (Rect.unit (s := S4x512x768) ![o.val, 0, 0] S1x512x768.size inb)).set := by
      have : i ∈ (Rect.unit (s := S4x512x768) ![o.val, 0, 0] S1x512x768.size inb).set := by
        rw [Rect.mem_set_unit]
        have h0 := (mem_woSlot o i).mp hi
        intro a
        have := (i a).isLt
        fin_cases a <;> simp at this ⊢ <;> omega
      rw [← View.set_slice_whole cc0_scratch1 (Rect.unit (s := S4x512x768) ![o.val, 0, 0] S1x512x768.size inb)] at this
      exact this
    obtain ⟨x, -, rfl⟩ := Finset.mem_map.mp hi'
    rw [View.write_emb_of_mem _ _ (Finset.mem_univ x)]
    exact (wo_emb m ρ o rfl inb x).symm
  iexact H

/-- The whole buffer is its four slots; -/
theorem wo_split : iprop(∃ f : Buf (Elt F) ((c : Thread nD τ).loc cc0_scratch1), (c : Thread nD τ).loc cc0_scratch1 ↦{fullShare} f)
    ⊢ (bigSep Finset.univ fun o : Dev nD => slotAny (F := F) true c o) := by
  iintro ⟨%f, H⟩
  iapply (show ((c : Thread nD τ).loc cc0_scratch1 ↦{fullShare} f : sProp 𝕄) ⊢ (bigSep Finset.univ fun o : Dev nD => slotAny (F := F) true c o) from ?_)
  · have hu : (Finset.univ : Finset S4x512x768.Idx) = (Finset.univ : Finset (Dev nD)).biUnion fun o => ((woSlot o).view.set : Finset S4x512x768.Idx) := by
      ext i; simp only [Finset.mem_univ, Finset.mem_biUnion, true_and, true_iff]; exact ⟨i 0, (mem_woSlot _ i).mpr rfl⟩
    have e : ((c : Thread nD τ).loc cc0_scratch1 ↦{fullShare} f : sProp 𝕄) = bigSep Finset.univ fun o : Dev nD => ((c : Thread nD τ).loc cc0_scratch1 ↦[((woSlot o).view.set : Finset S4x512x768.Idx)]{fullShare} f : sProp 𝕄) := by
      rw [← pointsTo_biUnion (ℓ := (c : Thread nD τ).loc cc0_scratch1) Finset.univ (fun o => ((woSlot o).view.set : Finset S4x512x768.Idx)) wo_disjoint, ← hu]
    rw [e]
    refine bigSep_mono fun o _ => ?_
    exact exists_intro (Φ := fun f : Buf (Elt F) ((woSlot o).view.loc (c : Thread nD τ)) => ((woSlot o).view.loc (c : Thread nD τ) ↦[(woSlot o).view.set]{fullShare} f : sProp 𝕄)) f
  iexact H

/-- and the four slots are the whole buffer. -/
theorem wo_join : (bigSep Finset.univ fun o : Dev nD => slotPts m ρ true c o fullShare)
    ⊢ iprop(∃ f : Buf (Elt F) ((c : Thread nD τ).loc cc0_scratch1), (c : Thread nD τ).loc cc0_scratch1 ↦{fullShare} f) := by
  have hu : (Finset.univ : Finset S4x512x768.Idx) = (Finset.univ : Finset (Dev nD)).biUnion fun o => ((woSlot o).view.set : Finset S4x512x768.Idx) := by
    ext i; simp only [Finset.mem_univ, Finset.mem_biUnion, true_and, true_iff]; exact ⟨i 0, (mem_woSlot _ i).mpr rfl⟩
  have e : ((c : Thread nD τ).loc cc0_scratch1 ↦{fullShare} woAll m ρ : sProp 𝕄) = bigSep Finset.univ fun o : Dev nD => slotPts m ρ true c o fullShare := by
    unfold slotPts
    rw [← pointsTo_biUnion (ℓ := (c : Thread nD τ).loc cc0_scratch1) Finset.univ (fun o => ((woSlot o).view.set : Finset S4x512x768.Idx)) wo_disjoint, ← hu]
  rw [← e]
  iintro H
  iexists woAll m ρ
  iexact H

/-- A device's own slot, in the four shares it is read at. -/
theorem own_shares (a : Bool) (o : Dev nD) : (slotPts m ρ a c o fullShare : sProp 𝕄)
    ⊣⊢ iprop((slotPts m ρ a c o (lend 0) ∗ slotPts m ρ a c o (lend 1)) ∗ slotPts m ρ a c o (lend 2) ∗ slotPts m ρ a c o keep) := by
  unfold slotPts
  cases a
  all_goals
    refine (pointsTo_share (PosShare.mem_left_op_right fullShare)).trans ?_
    exact sep_congr (pointsTo_share (PosShare.mem_left_op_right _)) (pointsTo_share (PosShare.mem_left_op_right _))

end Steps

end Cert.Run

end
-- ==== Proof.Attention.lean ====
/-
# What a device computes

The arithmetic of one round of the kernel – one block of heads, one batch row – as a function of the blocks it reads, the
contents of the two buffers that hold the keys and the values head by head, and the contents the result's buffer ends
with. No memory operation is run here.
-/
module

public import proofs.«01_k».proof.Proof.Steps
public import Idealize.ShloMosaic.Lib.Pointwise.Index
public import Idealize.ShloMosaic.Lib.Pointwise.Reshape
public import Idealize.ShloMosaic.Lib.Writes

@[expose] public section

noncomputable section

namespace Cert.Run

open Cert.KernelIdeal Cert.KernelIdeal.Gen
open Idealize.ShloMosaic
open Idealize.ShloMosaic.TcCoe

variable {F : FTy → Type} [FloatOps F] [Named F]

/-! ## One round -/

/-- One head: columns `off` of the queries, the keys and the values. The weights are the exponentials of the scaled and
    masked scores; the head is their sum of the values over their sum. -/
def headOut (off : Fin 2 → ℕ) (h : S512x512.Slices off S512x64) (bias : FVec F S512x512 .f32) (q k v : FVec F S512x512 .bf16) : FVec F S512x64 .bf16 :=
  have w : FVec F S512x512 .bf16 := truncf .bf16 (exp (addf (mulf (matmul dot_S512x64_S512x64_S512x512_1_1_0_0_n_n none
    (extractStridedSlice S512x64 off q h) (extractStridedSlice S512x64 off k h) (constant S512x512 .f32 0x00000000#32))
    (broadcast S512x512 (Scalar.ofBits .f32 0x3E000000#32))) bias)) bitsLt_bf16_f32
  truncf .bf16 (divf (matmul dot_S512x512_S512x64_S512x64_1_0_0_1_n_n none w (extractStridedSlice S512x64 off v h) (constant S512x64 .f32 0x00000000#32))
    (broadcastTo S512x64 (extractStridedSlice S512x1 ![0, 0]
      (matmul dot_S512x512_S512x8_S512x8_1_0_0_1_n_n none w k0_pay30 (constant S512x8 .f32 0x00000000#32)) slices_S512x8_o0_0_S512x1)
      broadcasts_S512x1_S512x64)) bitsLt_bf16_f32

/-- The eight heads of a block side by side. -/
def heads (bias : FVec F S512x512 .f32) (q k v : FVec F S512x512 .bf16) : FVec F S512x512 .bf16 :=
  concatenate S512x512 1 [⟨S512x64, headOut ![0, 0] slices_S512x512_o0_0_S512x64 bias q k v⟩, ⟨S512x64, headOut ![0, 64] slices_S512x512_o0_64_S512x64 bias q k v⟩,
    ⟨S512x64, headOut ![0, 128] slices_S512x512_o0_128_S512x64 bias q k v⟩, ⟨S512x64, headOut ![0, 192] slices_S512x512_o0_192_S512x64 bias q k v⟩,
    ⟨S512x64, headOut ![0, 256] slices_S512x512_o0_256_S512x64 bias q k v⟩, ⟨S512x64, headOut ![0, 320] slices_S512x512_o0_320_S512x64 bias q k v⟩,
    ⟨S512x64, headOut ![0, 384] slices_S512x512_o0_384_S512x64 bias q k v⟩, ⟨S512x64, headOut ![0, 448] slices_S512x512_o0_448_S512x64 bias q k v⟩]
    concatenates_S512x64_S512x64_S512x64_S512x64_S512x64_S512x64_S512x64_S512x64_S512x512_d1

/-- The queries of a block of heads. -/
def queries (x : FVec F S512x768 .bf16) (wq : FVec F S768x512 .bf16) : FVec F S512x512 .bf16 :=
  truncf .bf16 (matmul dot_S512x768_S768x512_S512x512_1_0_0_1_n_n none x wq (constant S512x512 .f32 0x00000000#32)) bitsLt_bf16_f32

/-- A round: what a batch row of the result holds after it, from what it held. -/
def round (bias : FVec F S512x512 .f32) (x : FVec F S512x768 .bf16) (wq : FVec F S768x512 .bf16) (wo : FVec F S512x768 .bf16)
    (k v : FVec F S512x512 .bf16) (a : FVec F S1x512x768 .f32) : FVec F S1x512x768 .f32 :=
  shapeCast S1x512x768 (addf (shapeCast S512x768 a shapeCasts_S1x512x768_S512x768)
    (matmul dot_S512x512_S512x768_S512x768_1_0_0_1_n_n none (heads bias (queries x wq) k v) wo (constant S512x768 .f32 0x00000000#32)))
    shapeCasts_S512x768_S1x512x768

/-- The mask's rows for the queries of device `c`, added to the scores. -/
def bias (c : Dev nD) : FVec F S512x512 .f32 :=
  have w : BitVec 32 := Scalar.muli (Scalar.remsi (Scalar.divsi c.word 1#32) 4#32) 8#32
  k0_pay27 (k0_pay23 (iota .tc S512x512 32 [0] iota_S512x512_d0_w32) w 64#32 k0_pay21 k0_pay22 0#32) (k0_pay24 (iota .tc S512x512 32 [1] iota_S512x512_d1_w32))
    (k0_pay25 (iota .tc S512x512 32 [0] iota_S512x512_d0_w32) (iota .tc S512x512 32 [1] iota_S512x512_d1_w32) w 64#32 k0_pay21 k0_pay22 0#32)
    (k0_pay26 (iota .tc S512x512 32 [1] iota_S512x512_d1_w32))

/-! ## The keys and the values, head by head -/

/-- Heads side by side: column `64 h + d` is coordinate `d` of head `h`. -/
def sideBySide (g : FVec F S2x512x32x64 .bf16) : FVec F S2x512x2048 .bf16 := fun i =>
  g (ix4 (i 0) (i 1) ⟨(i 2 : Nat) / 64, by have : (i 2 : Nat) < 2048 := (i 2).isLt; omega⟩ ⟨(i 2 : Nat) % 64, by omega⟩)

/-- Eight heads of one batch row, read and laid side by side, are a box of the whole. -/
theorem sideBySide_piece (g : FVec F S2x512x32x64 .bf16) (off : Fin 4 → ℕ) (inb : ∀ a, off a + S1x512x8x64.size a ≤ S2x512x32x64.size a)
    (off' : Fin 3 → ℕ) (inb' : ∀ a, off' a + S1x512x512.size a ≤ S2x512x2048.size a)
    (h0 : off' 0 = off 0) (h1 : off' 1 = 0) (h1' : off 1 = 0) (h2 : off' 2 = 64 * off 2) (h3 : off 3 = 0)
    (hs : S1x512x8x64.ShapeCasts S512x8x64) (hs' : S512x8x64.ShapeCasts S512x512) (hs'' : S512x512.ShapeCasts S1x512x512) (x : S1x512x512.Idx) :
    shapeCast S1x512x512 (shapeCast S512x512 (shapeCast S512x8x64
      (fun j : S1x512x8x64.Idx => g ((Rect.unit (s := S2x512x32x64) off S1x512x8x64.size inb).emb j)) hs) hs') hs'' x
      = sideBySide g ((Rect.unit (s := S2x512x2048) off' S1x512x512.size inb').emb x) := by
  rw [shapeCast_comp, shapeCast_comp]
  have hx0 : (x 0 : Nat) < 1 := (x 0).isLt
  have hx1 : (x 1 : Nat) < 512 := (x 1).isLt
  have hx2 : (x 2 : Nat) < 512 := (x 2).isLt
  refine (shapeCast_apply _ _ x (ix4 (n0 := 1) (n1 := 512) (n2 := 8) (n3 := 64) ⟨0, by omega⟩ ⟨x 1, hx1⟩ ⟨(x 2 : Nat) / 64, by omega⟩ ⟨(x 2 : Nat) % 64, by omega⟩) ?_).trans ?_
  · rw [Shape.rowMajor_val_four, Shape.rowMajor_val_three]
    show ((((0 : Nat) * 512 + x 1) * 8 + (x 2 : Nat) / 64) * 64 + (x 2 : Nat) % 64) = ((x 0 : Nat) * 512 + x 1) * 512 + x 2
    omega
  · unfold sideBySide
    refine congrArg g (funext fun a => Fin.ext ?_)
    refine (ValueKit.rect_emb_unit_val _ _ _ _ a).trans ?_
    have e0 := ValueKit.rect_emb_unit_val (s := S2x512x2048) off' S1x512x512.size inb' x 0
    have e1 := ValueKit.rect_emb_unit_val (s := S2x512x2048) off' S1x512x512.size inb' x 1
    have e2 := ValueKit.rect_emb_unit_val (s := S2x512x2048) off' S1x512x512.size inb' x 2
    fin_cases a
    · show off 0 + 0 = _
      refine Eq.trans ?_ e0.symm; omega
    · show off 1 + (x 1 : Nat) = _
      refine Eq.trans ?_ e1.symm; omega
    · show off 2 + (x 2 : Nat) / 64 = (((Rect.unit (s := S2x512x2048) off' S1x512x512.size inb').emb x) 2 : Nat) / 64
      rw [e2]; omega
    · show off 3 + (x 2 : Nat) % 64 = (((Rect.unit (s := S2x512x2048) off' S1x512x512.size inb').emb x) 2 : Nat) % 64
      rw [e2]; omega

theorem boxes_inb : ∀ (p : Fin 2 × Fin 4) (a : Fin 3), ![p.1.val, 0, 512 * p.2.val] a + S1x512x512.size a ≤ S2x512x2048.size a := by decide
theorem eight_inb : ∀ (p : Fin 2 × Fin 4) (a : Fin 4), ![p.1.val, 0, 8 * p.2.val, 0] a + S1x512x8x64.size a ≤ S2x512x32x64.size a := by decide

/-- The eight boxes of heads, the last written first. -/
def boxes (g : FVec F S2x512x32x64 .bf16) : List (View.Piece (Elt F) S2x512x2048 .bf16) :=
  ([(1, 3), (1, 2), (1, 1), (1, 0), (0, 3), (0, 2), (0, 1), (0, 0)] : List (Fin 2 × Fin 4)).map fun p =>
    ⟨Rect.unit (s := S2x512x2048) ![p.1.val, 0, 512 * p.2.val] S1x512x512.size (boxes_inb p),
      shapeCast S1x512x512 (shapeCast S512x512 (shapeCast S512x8x64
        (fun j : S1x512x8x64.Idx => g ((Rect.unit (s := S2x512x32x64) ![p.1.val, 0, 8 * p.2.val, 0] S1x512x8x64.size (eight_inb p)).emb j))
        shapeCasts_S1x512x8x64_S512x8x64) shapeCasts_S512x8x64_S512x512) shapeCasts_S512x512_S1x512x512⟩

/-- Written one after the other they leave the heads side by side. -/
theorem read_boxes {κ : Kind} {sp : Space} (v : View sig κ sp S2x512x2048 .bf16) (f : v.ty.Contents (Elt F)) (g : FVec F S2x512x32x64 .bf16) :
    v.read (Elt F) (v.writes (Elt F) f (boxes g)) = sideBySide g := by
  funext y
  refine View.read_writes_apply_of_pieces v f (sideBySide g) (boxes g) ?_ y (View.cover_of_tiled (boxes g) S1x512x512.size rfl y)
  intro p hp x
  obtain ⟨bo, -, rfl⟩ := List.mem_map.mp hp
  exact sideBySide_piece g _ (eight_inb bo) _ (boxes_inb bo) rfl rfl rfl (by show 512 * bo.2.val = 64 * (8 * bo.2.val); omega) rfl _ _ _ x

/-- The same of the two whole buffers. -/
theorem k_boxes (f : FVec F S2x512x2048 .bf16) (g : FVec F S2x512x32x64 .bf16) :
    (Memref.whole cc0_scratch2 : Memref sig .tc .vmem S2x512x2048 .bf16).view.writes (Elt F) f (boxes g) = sideBySide g :=
  (View.read_whole cc0_scratch2 _).symm.trans (read_boxes (View.whole cc0_scratch2 : View sig .tc .vmem S2x512x2048 .bf16) f g)
theorem v_boxes (f : FVec F S2x512x2048 .bf16) (g : FVec F S2x512x32x64 .bf16) :
    (Memref.whole cc0_scratch3 : Memref sig .tc .vmem S2x512x2048 .bf16).view.writes (Elt F) f (boxes g) = sideBySide g :=
  (View.read_whole cc0_scratch3 _).symm.trans (read_boxes (View.whole cc0_scratch3 : View sig .tc .vmem S2x512x2048 .bf16) f g)

/-! ## Contents -/

variable (m : (ℓ : Loc nD τ sig) → Buf (Elt F) ℓ) (ρ : Dev nD → PrngReg)

/-- The keys and the values of device `c` as the kernel reorders them. -/
def kHm (c : Dev nD) : FVec F S2x512x2048 .bf16 := sideBySide (kStg m ρ c)
def vHm (c : Dev nD) : FVec F S2x512x2048 .bf16 := sideBySide (vStg m ρ c)

/-- Batch row `b` and the columns of block `o` of heads side by side. -/
def cols (g : FVec F S2x512x2048 .bf16) (b : Fin 2) (o : Dev nD) : FVec F S512x512 .bf16 := fun i =>
  g (ix3 b (i 0) ⟨512 * o.val + (i 1 : Nat), by have h : (i 1 : Nat) < 512 := (i 1).isLt; have := o.isLt; unfold nD at this; omega⟩)

/-- Batch row `b` of the activations. -/
def xRow (c : Dev nD) (b : Fin 2) : FVec F S512x768 .bf16 := fun i => xStg m ρ c (ix3 b (i 0) (i 1))

/-- What batch row `b` of the result holds after the round that reads block `o`, from what it held. -/
def step (c : Dev nD) (b : Fin 2) (o : Dev nD) (a : FVec F S1x512x768 .f32) : FVec F S1x512x768 .f32 :=
  round (bias c) (xRow m ρ c b) (wqStg m ρ o) (woStg m ρ o) (cols (kHm m ρ c) b o) (cols (vHm m ρ c) b o) a

/-- What batch row `b` of the result ends with. -/
def outRow (c : Dev nD) (b : Fin 2) : FVec F S1x512x768 .f32 :=
  step m ρ c b (pl c 2) (step m ρ c b (pl c 3) (step m ρ c b (pl c 1) (step m ρ c b c k0_pay31)))

/-- The two rows of the result's block. -/
def rows (a b : FVec F S1x512x768 .f32) : FVec F S2x512x768 .f32 := fun i =>
  if (i 0 : Nat) = 0 then a (ix3 0 (i 1) (i 2)) else b (ix3 0 (i 1) (i 2))

/-- What the result's staging buffer ends with. -/
def outAt (c : Dev nD) : FVec F S2x512x768 .f32 := rows (outRow m ρ c 0) (outRow m ρ c 1)

end Cert.Run

end
-- ==== Proof.Sends.lean ====
/-
# One device's run

The kernel's body on device `c`, from its arrays in the staging buffers to its block of the result: the handshake, the
six copies, the reordering of the keys and the values, and the four rounds of attention, each after the waits for the
blocks it reads.
-/
module

public import proofs.«01_k».proof.Proof.Attention

@[expose] public section

noncomputable section

namespace Cert.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The semaphores of a device in the order it meets them -/

theorem sems_nodup (c : Dev nD) : [(0 : Fin 15), sendK false 0, sendK true 0, sendK false 1, sendK true 1, sendK false 2, sendK true 2,
    recvK false (pl c 1), recvK true (pl c 1), recvK false (pl c 3), recvK true (pl c 3), recvK false (pl c 2), recvK true (pl c 2),
    recvK false c, recvK true c].Nodup := by revert c; decide
theorem sems_all (c : Dev nD) : (Finset.univ : Finset (Fin 15)) = [(0 : Fin 15), sendK false 0, sendK true 0, sendK false 1, sendK true 1, sendK false 2, sendK true 2,
    recvK false (pl c 1), recvK true (pl c 1), recvK false (pl c 3), recvK true (pl c 3), recvK false (pl c 2), recvK true (pl c 2),
    recvK false c, recvK true c].toFinset := by revert c; decide

/-- Something for each of a device's semaphores, spelled out. -/
theorem sems_eq (c : Dev nD) (Φ : Fin 15 → sProp 𝕄) : bigSep Finset.univ Φ
    = iprop(Φ 0 ∗ Φ (sendK false 0) ∗ Φ (sendK true 0) ∗ Φ (sendK false 1) ∗ Φ (sendK true 1) ∗ Φ (sendK false 2) ∗ Φ (sendK true 2)
      ∗ Φ (recvK false (pl c 1)) ∗ Φ (recvK true (pl c 1)) ∗ Φ (recvK false (pl c 3)) ∗ Φ (recvK true (pl c 3))
      ∗ Φ (recvK false (pl c 2)) ∗ Φ (recvK true (pl c 2)) ∗ Φ (recvK false c) ∗ Φ (recvK true c)) := by
  rw [bigSep_univ_eq_bigSepL _ (sems_all c) (sems_nodup c)]
  rfl

theorem devs_nodup (c : Dev nD) : [c, pl c 1, pl c 2, pl c 3].Nodup := by revert c; decide
theorem devs_all (c : Dev nD) : (Finset.univ : Finset (Dev nD)) = [c, pl c 1, pl c 2, pl c 3].toFinset := by revert c; decide
/-- Something for each device, this one first. -/
theorem devs_eq (c : Dev nD) (Φ : Dev nD → sProp 𝕄) : bigSep Finset.univ Φ = iprop(Φ c ∗ Φ (pl c 1) ∗ Φ (pl c 2) ∗ Φ (pl c 3)) := by
  rw [bigSep_univ_eq_bigSepL _ (devs_all c) (devs_nodup c)]
  rfl

/-! ## What the run starts from and what it leaves -/

/-- The tokens of the duties device `c` pays. -/
def toks (c : Dev nD) : sProp 𝕄 :=
  iprop((dutyTok ER (barCell (pl c 1)) 0 c ∗ dutyTok ER (barCell (pl c 2)) 0 c ∗ dutyTok ER (barCell (pl c 3)) 0 c)
    ∗ (dutyTok ER (sendCell false c 0) 0 c ∗ dutyTok ER (sendCell true c 0) 0 c ∗ dutyTok ER (sendCell false c 1) 0 c
      ∗ dutyTok ER (sendCell true c 1) 0 c ∗ dutyTok ER (sendCell false c 2) 0 c ∗ dutyTok ER (sendCell true c 2) 0 c)
    ∗ (dutyTok ER (recvCell false (pl c 1) c) 0 c ∗ dutyTok ER (recvCell true (pl c 1) c) 0 c ∗ dutyTok ER (recvCell false (pl c 2) c) 0 c
      ∗ dutyTok ER (recvCell true (pl c 2) c) 0 c ∗ dutyTok ER (recvCell false (pl c 3) c) 0 c ∗ dutyTok ER (recvCell true (pl c 3) c) 0 c))

/-- The credit for what device `c` waits for from the others. -/
def creds (c : Dev nD) : sProp 𝕄 :=
  iprop(cred (tallyAt (barCell c) () 3)
    ∗ cred (tallyAt (recvCell false c (pl c 1)) () (NW false)) ∗ cred (tallyAt (recvCell true c (pl c 1)) () (NW true))
    ∗ cred (tallyAt (recvCell false c (pl c 3)) () (NW false)) ∗ cred (tallyAt (recvCell true c (pl c 3)) () (NW true))
    ∗ cred (tallyAt (recvCell false c (pl c 2)) () (NW false)) ∗ cred (tallyAt (recvCell true c (pl c 2)) () (NW true)))

/-- The positions of device `c` at its own semaphores, and what it pays with. -/
def ghost (K : Dev nD × Fin 15 → ℕ) (c : Dev nD) : sProp 𝕄 :=
  iprop(records m ρ K ∗ (bigSep Finset.univ fun k : Fin 15 => atPos ER (kcell (c, k)) 0 ∅ 0) ∗ toks c)

/-- The buffers no window stages: the two of blocks, and the keys' and the values' heads side by side. -/
def scr (c : Dev nD) : sProp 𝕄 :=
  iprop((∃ f : Buf (Elt F) ((c : Thread nD τ).loc cc0_scratch0), (c : Thread nD τ).loc cc0_scratch0 ↦{fullShare} f)
    ∗ (∃ f : Buf (Elt F) ((c : Thread nD τ).loc cc0_scratch1), (c : Thread nD τ).loc cc0_scratch1 ↦{fullShare} f)
    ∗ (∃ f : Buf (Elt F) ((Memref.whole cc0_scratch2).view.loc (c : Thread nD τ)), (Memref.whole cc0_scratch2).view.loc (c : Thread nD τ) ↦{fullShare} f)
    ∗ (∃ f : Buf (Elt F) ((Memref.whole cc0_scratch3).view.loc (c : Thread nD τ)), (Memref.whole cc0_scratch3).view.loc (c : Thread nD τ) ↦{fullShare} f))

/-- The staged inputs. -/
def ins (c : Dev nD) : sProp 𝕄 :=
  iprop(((Memref.whole cc0_stg0_0).view.loc (c : Thread nD τ) ↦{fullShare} xStg m ρ c) ∗ ((Memref.whole cc0_stg1_0).view.loc (c : Thread nD τ) ↦{fullShare} wqStg m ρ c)
    ∗ ((Memref.whole cc0_stg2_0).view.loc (c : Thread nD τ) ↦{fullShare} kStg m ρ c) ∗ ((Memref.whole cc0_stg3_0).view.loc (c : Thread nD τ) ↦{fullShare} vStg m ρ c)
    ∗ ((Memref.whole cc0_stg4_0).view.loc (c : Thread nD τ) ↦{fullShare} woStg m ρ c))

def runPre (K : Dev nD × Fin 15 → ℕ) (c : Dev nD) (W : Waits sig Unit) (f5 : Buf (Elt F) ((Memref.whole cc0_stg5_0).view.loc (c : Thread nD τ))) : sProp 𝕄 :=
  iprop(ghost m ρ K c ∗ creds c ∗ levAts L lv ∗ scr c ∗ owes (c : Thread nD τ) (O₀ c) W ∗ ins m ρ c ∗ ((Memref.whole cc0_stg5_0).view.loc (c : Thread nD τ) ↦{fullShare} f5))

def runPost (c : Dev nD) (g : Buf (Elt F) ((Memref.whole cc0_stg5_0).view.loc (c : Thread nD τ))) : sProp 𝕄 :=
  iprop((bigSep Finset.univ fun k : Fin 15 => semVal (kcell (c, k)) 0) ∗ scr c ∗ (∃ W, owes (c : Thread nD τ) 0 W) ∗ ins m ρ c
    ∗ ((Memref.whole cc0_stg5_0).view.loc (c : Thread nD τ) ↦{fullShare} g))

/-! ## The run -/

theorem dev1_pl (c : Dev nD) : (⟨k0_dev1 c, k0_dev1_lt c⟩ : Dev nD) = pl c 1 := by revert c; decide
theorem dev2_pl (c : Dev nD) : (⟨k0_dev2 c, k0_dev2_lt c⟩ : Dev nD) = pl c 2 := by revert c; decide
theorem dev3_pl (c : Dev nD) : (⟨k0_dev3 c, k0_dev3_lt c⟩ : Dev nD) = pl c 3 := by revert c; decide

/-- What the device stores in its own slots is its blocks. -/
theorem wq_put (c : Dev nD) : k0_pay1 ((Memref.whole cc0_stg1_0 : Memref sig .tc .vmem S768x512 .bf16).view.readAt (Elt F)
    (Rect.unit (s := S768x512) ![0, 0] S768x512.size inb_S768x512_S768x512_0_0).toLoadRect (wqStg m ρ c)) = wqVal m ρ c := by
  have e : (Memref.whole cc0_stg1_0 : Memref sig .tc .vmem S768x512 .bf16).view.readAt (Elt F)
    (Rect.unit (s := S768x512) ![0, 0] S768x512.size inb_S768x512_S768x512_0_0).toLoadRect (wqStg m ρ c) = wqStg m ρ c := by
    funext x
    rw [View.readAt_rect, View.read_apply]
    refine congrArg (wqStg m ρ c) (funext fun a => Fin.ext ?_)
    refine (ValueKit.rect_emb_unit_val _ _ _ _ a).trans ?_
    fin_cases a <;> simp
  rw [e]
  unfold k0_pay1
  simp only [shapeCast_self]
  funext i
  exact shapeCast_addUnit_apply _ _ _ _
theorem wo_put (c : Dev nD) : k0_pay3 (k0_pay2 ((Memref.whole cc0_stg4_0 : Memref sig .tc .vmem S512x768 .bf16).view.readAt (Elt F)
    (Rect.unit (s := S512x768) ![0, 0] S512x768.size inb_S512x768_S512x768_0_0).toLoadRect (woStg m ρ c))) = woVal m ρ c := by
  have e : (Memref.whole cc0_stg4_0 : Memref sig .tc .vmem S512x768 .bf16).view.readAt (Elt F)
    (Rect.unit (s := S512x768) ![0, 0] S512x768.size inb_S512x768_S512x768_0_0).toLoadRect (woStg m ρ c) = woStg m ρ c := by
    funext x
    rw [View.readAt_rect, View.read_apply]
    refine congrArg (woStg m ρ c) (funext fun a => Fin.ext ?_)
    refine (ValueKit.rect_emb_unit_val _ _ _ _ a).trans ?_
    fin_cases a <;> simp
  rw [e]
  unfold k0_pay3 k0_pay2
  simp only [shapeCast_self]
  funext i
  exact shapeCast_addUnit_apply _ _ _ _

/-- The semaphores the program spells, in the numbering of `Protocol`. -/
theorem sem4_eq (j : Fin 3) {inb : ∀ a, (![j.val] : Fin 1 → ℕ) a + S1.size a ≤ S3.size a} :
    (SemLoc.dma ((cc0_scratch4.slice (Rect.unit (s := S3) ![j.val] S1.size inb)).squeeze S_ squeezes_S1_S_).sem : SemLoc sig) = csem (sendK false j) := by
  revert j; decide
theorem sem6_eq (j : Fin 3) {inb : ∀ a, (![j.val] : Fin 1 → ℕ) a + S1.size a ≤ S3.size a} :
    (SemLoc.dma ((cc0_scratch6.slice (Rect.unit (s := S3) ![j.val] S1.size inb)).squeeze S_ squeezes_S1_S_).sem : SemLoc sig) = csem (sendK true j) := by
  revert j; decide
theorem sem5_eq (c : Dev nD) :
    (SemLoc.dma ((cc0_scratch5.slice (Rect.unit (s := S4) (k0_off3 c) S1.size (k0_off3_inb c))).squeeze S_ squeezes_S1_S_).sem : SemLoc sig) = csem (recvK false c) := by
  revert c; decide
theorem sem7_eq (c : Dev nD) :
    (SemLoc.dma ((cc0_scratch7.slice (Rect.unit (s := S4) (k0_off3 c) S1.size (k0_off3_inb c))).squeeze S_ squeezes_S1_S_).sem : SemLoc sig) = csem (recvK true c) := by
  revert c; decide
theorem dev4_pl (c : Dev nD) : (⟨k0_dev4 c, k0_dev4_lt c⟩ : Dev nD) = pl c 1 := by revert c; decide
theorem dev5_pl (c : Dev nD) : (⟨k0_dev5 c, k0_dev5_lt c⟩ : Dev nD) = pl c 1 := by revert c; decide
theorem dev6_pl (c : Dev nD) : (⟨k0_dev6 c, k0_dev6_lt c⟩ : Dev nD) = pl c 2 := by revert c; decide
theorem dev7_pl (c : Dev nD) : (⟨k0_dev7 c, k0_dev7_lt c⟩ : Dev nD) = pl c 2 := by revert c; decide
theorem dev8_pl (c : Dev nD) : (⟨k0_dev8 c, k0_dev8_lt c⟩ : Dev nD) = pl c 3 := by revert c; decide
theorem dev9_pl (c : Dev nD) : (⟨k0_dev9 c, k0_dev9_lt c⟩ : Dev nD) = pl c 3 := by revert c; decide

/-- The kernel's body on its staging buffers and scratch. -/
abbrev body : Prog (TpuEff nD τ sig (Elt F) Λ₀ .tc) PUnit :=
  cc0_body (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_stg5_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) cc0_scratch4 cc0_scratch5 cc0_scratch6 cc0_scratch7

/-- The buffers of the keys and the values, written box by box, hold them head by head. -/
theorem k_reordered (c : Dev nD) (f : FVec F S2x512x2048 .bf16) (l : List (View.Piece (Elt F) S2x512x2048 .bf16)) (g : FVec F S2x512x32x64 .bf16) :
    ((Memref.whole cc0_scratch2).view.loc (c : Thread nD τ) ↦{fullShare} (Memref.whole cc0_scratch2 : Memref sig .tc .vmem S2x512x2048 .bf16).view.writes (Elt F) f l : sProp 𝕄)
      ⊢ iprop(⌜l = boxes g⌝ -∗ (Memref.whole cc0_scratch2).view.loc (c : Thread nD τ) ↦{fullShare} sideBySide g) := by
  iintro H %e
  subst e
  rw [k_boxes]
  iexact H
theorem v_reordered (c : Dev nD) (f : FVec F S2x512x2048 .bf16) (l : List (View.Piece (Elt F) S2x512x2048 .bf16)) (g : FVec F S2x512x32x64 .bf16) :
    ((Memref.whole cc0_scratch3).view.loc (c : Thread nD τ) ↦{fullShare} (Memref.whole cc0_scratch3 : Memref sig .tc .vmem S2x512x2048 .bf16).view.writes (Elt F) f l : sProp 𝕄)
      ⊢ iprop(⌜l = boxes g⌝ -∗ (Memref.whole cc0_scratch3).view.loc (c : Thread nD τ) ↦{fullShare} sideBySide g) := by
  iintro H %e
  subst e
  rw [v_boxes]
  iexact H

/-- A rule that takes several resources at once, taken one resource at a time. -/
theorem curry4 {A B C D R : sProp 𝕄} (h : iprop(A ∗ B ∗ C ∗ D) ⊢ R) : A ⊢ iprop(B -∗ C -∗ D -∗ R) := by
  iintro HA HB HC HD
  iapply h
  isplitl [HA]; · iexact HA
  isplitl [HB]; · iexact HB
  isplitl [HC]; · iexact HC
  iexact HD
theorem curry5 {A B C D E R : sProp 𝕄} (h : iprop(A ∗ B ∗ C ∗ D ∗ E) ⊢ R) : A ⊢ iprop(B -∗ C -∗ D -∗ E -∗ R) := by
  iintro HA HB HC HD HE
  iapply (curry4 h) $$ HA HB HC [HD HE]
  isplitl [HD]; · iexact HD
  iexact HE
theorem curry6 {A B C D E G R : sProp 𝕄} (h : iprop(A ∗ B ∗ C ∗ D ∗ E ∗ G) ⊢ R) : A ⊢ iprop(B -∗ C -∗ D -∗ E -∗ G -∗ R) := by
  iintro HA HB HC HD HE HG
  iapply (curry5 h) $$ HA HB HC HD [HE HG]
  isplitl [HE]; · iexact HE
  iexact HG

/-- A lone effect followed by the rest of the program is that effect at the program's head. -/
theorem lone {β α : Type} (e : TpuEff nD τ sig (Elt F) Λ₀ .tc β) (kont : β → Prog (TpuEff nD τ sig (Elt F) Λ₀ .tc) α) (c : Dev nD) (Q : α → sProp 𝕄) :
    wp frame (wpE (defs₀ (F := F)) 𝒱₀ (c : Thread nD τ) none) Set.univ (.op e kont) Q
      ⊢ wp frame (wpE (defs₀ (F := F)) 𝒱₀ (c : Thread nD τ) none) Set.univ (Prog.lift e >>= kont) Q :=
  BI.Entails.refl _

/-- The run of device `c`: from what it is given, whatever follows, to its block of the result. -/
def Runs (c : Dev nD) : Prop := ∀ (K : Dev nD × Fin 15 → ℕ) (W : Waits sig Unit)
    (f5 : Buf (Elt F) ((Memref.whole cc0_stg5_0).view.loc (c : Thread nD τ))) (Q : PUnit → sProp 𝕄),
    runPre m ρ K c W f5 ⊢ iprop((runPost m ρ c (outAt m ρ c) -∗ Q ⟨⟩)
      -∗ wp frame (wpE (defs₀ (F := F)) 𝒱₀ (c : Thread nD τ) none) Set.univ body Q)

set_option maxHeartbeats 1600000 in
/-- The first stretch: the exchange's sends, and the keys and the values laid head by head. -/
def sends (c : Dev nD) : Σ' (G : Prop), G → Runs m ρ c := by
  sl_stretch
  unfold Runs
  intro K W f5 Q
  unfold body; simp only [cc0_body_eq_skeleton]; unfold cc0_body_skel
  simp only [k0_part38_eq_skeleton]; unfold k0_part38_skel
  simp only [k0_part1_eq_skeleton, k0_part2_eq_skeleton, k0_part3_eq_skeleton, k0_part4_eq_skeleton]
  unfold k0_part1_skel k0_part2_skel k0_part3_skel k0_part4_skel
  simp only [semSignalWord, semWaitWord, Prog.lift, Prog.bind_op, Prog.bind_ret, Prog.pure_eq_ret, Prog.bind_assoc, wp_deviceId]
  unfold runPre ghost toks creds scr ins
  iintro ⟨⟨#HR, Hat, ⟨HtB1, HtB2, HtB3⟩, ⟨HtS0, HtT0, HtS1, HtT1, HtS2, HtT2⟩, HtR1, HtU1, HtR2, HtU2, HtR3, HtU3⟩,
    ⟨HcB, HcR1, HcU1, HcR3, HcU3, HcR2, HcU2⟩, #Hlev, ⟨Hs0, Hs1, Hs2, Hs3⟩, HO, ⟨Hx, Hwq, Hk, Hv, Hwo⟩, Hout⟩ Hcont
  ihave Hat := (Entails.of_eq (sems_eq c _)) $$ Hat
  icases Hat with ⟨HaB, HaS0, HaT0, HaS1, HaT1, HaS2, HaT2, HaR1, HaU1, HaR3, HaU3, HaR2, HaU2, HaR0, HaU0⟩
  ihave Hs0 := (wq_split c) $$ Hs0
  ihave Hs0 := (Entails.of_eq (devs_eq c _)) $$ Hs0
  icases Hs0 with ⟨Hq0, Hq1, Hq2, Hq3⟩
  ihave Hs1 := (wo_split c) $$ Hs1
  ihave Hs1 := (Entails.of_eq (devs_eq c _)) $$ Hs1
  icases Hs1 with ⟨Ho0, Ho1, Ho2, Ho3⟩
  -- the handshake
  iapply (curry5 (wp_signal_pl m ρ K c _ 1 (by decide) (dev1_pl c) rfl (O₁ c) rfl (O' := O₀ c))) $$ HR HO HtB1 Hq1 Ho1
  iintro HO
  iapply (curry5 (wp_signal_pl m ρ K c _ 2 (by decide) (dev2_pl c) rfl (O₂ c) rfl (O' := O₁ c))) $$ HR HO HtB2 Hq2 Ho2
  iintro HO
  iapply (curry5 (wp_signal_pl m ρ K c _ 3 (by decide) (dev3_pl c) rfl (owed0 c) rfl (O' := O₂ c))) $$ HR HO HtB3 Hq3 Ho3
  iintro HO
  iapply (curry5 (wp_wait_bar m ρ K c rfl)) $$ HR Hlev HO HcB HaB
  unfold barPay
  iintro ⟨HO, HaB, ⟨Hq1, Ho1⟩, ⟨Hq2, Ho2⟩, Hq3, Ho3⟩
  -- the device's own blocks into its own slots
  iapply (wp_load 𝒱₀ (c : Thread nD τ) none Set.univ (m := Memref.whole cc0_stg1_0) (Finset.subset_univ _)) $$ Hwq; iintro Hwq
  iapply (wp_load_any_wq c c (k0_off1_eq c)) $$ Hq0; iintro %u0 Hq0
  iapply (wp_store_wq m ρ c c (k0_off1_eq c) _ (wq_put m ρ c)) $$ Hq0; iintro Hq0
  iapply (wp_load 𝒱₀ (c : Thread nD τ) none Set.univ (m := Memref.whole cc0_stg4_0) (Finset.subset_univ _)) $$ Hwo; iintro Hwo
  iapply (wp_load_any_wo c c (k0_off2_eq c)) $$ Ho0; iintro %u1 Ho0
  iapply (wp_store_wo m ρ c c (k0_off2_eq c) _ (wo_put m ρ c)) $$ Ho0; iintro Ho0
  ihave Hq0 := (own_shares m ρ c false c).1 $$ Hq0
  icases Hq0 with ⟨⟨Hl0, Hl1⟩, Hl2, Hq0⟩
  ihave Ho0 := (own_shares m ρ c true c).1 $$ Ho0
  icases Ho0 with ⟨⟨Hm0, Hm1⟩, Hm2, Ho0⟩
  -- the six copies
  iapply (curry6 (wp_send_wq m ρ K c 0 1 rfl _ (dev4_pl c) rfl rfl (sem4_eq 0) (sem5_eq c) (owed1 c) rfl (O' := owed0 c))) $$ HR HO HtS0 HtR1 Hl0 Hq1
  iintro ⟨HcS0, HO⟩
  iapply (curry6 (wp_send_wo m ρ K c 0 1 rfl _ (dev5_pl c) rfl rfl (sem6_eq 0) (sem7_eq c) (owed2 c) rfl (O' := owed1 c))) $$ HR HO HtT0 HtU1 Hm0 Ho1
  iintro ⟨HcT0, HO⟩
  iapply (curry6 (wp_send_wq m ρ K c 1 2 rfl _ (dev6_pl c) rfl rfl (sem4_eq 1) (sem5_eq c) (owed3 c) rfl (O' := owed2 c))) $$ HR HO HtS1 HtR2 Hl1 Hq2
  iintro ⟨HcS1, HO⟩
  iapply (curry6 (wp_send_wo m ρ K c 1 2 rfl _ (dev7_pl c) rfl rfl (sem6_eq 1) (sem7_eq c) (owed4 c) rfl (O' := owed3 c))) $$ HR HO HtT1 HtU2 Hm1 Ho2
  iintro ⟨HcT1, HO⟩
  iapply (curry6 (wp_send_wq m ρ K c 2 3 rfl _ (dev8_pl c) rfl rfl (sem4_eq 2) (sem5_eq c) (owed5 c) rfl (O' := owed4 c))) $$ HR HO HtS2 HtR3 Hl2 Hq3
  iintro ⟨HcS2, HO⟩
  iapply (curry6 (wp_send_wo m ρ K c 2 3 rfl _ (dev9_pl c) rfl rfl (sem6_eq 2) (sem7_eq c) 0 rfl (O' := owed5 c))) $$ HR HO HtT2 HtU3 Hm2 Ho3
  iintro ⟨HcT2, HO⟩
  -- the keys' and the values' heads side by side
  icases Hs2 with ⟨%f2, Hs2⟩
  icases Hs3 with ⟨%f3, Hs3⟩
  set_option sl_exec.stopBefore "k0_part8" in sl_exec
  ihave Hs2 := (k_reordered c f2 _ (kStg m ρ c)) $$ Hs2 []
  · ipureintro; rfl
  ihave Hs3 := (v_reordered c f3 _ (vStg m ρ c)) $$ Hs3 []
  · ipureintro; rfl
  sl_seam

end Cert.Run

end
-- ==== Proof.Block0.lean ====
/-
# The run over the device's own block
-/
module

public import proofs.«01_k».proof.Proof.Sends

@[expose] public section

noncomputable section

namespace Cert.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

theorem off6_pl0 (c : Dev nD) : k0_off6 c 0#32 = ![c.val, 0, 0] := by revert c; decide
theorem off7_pl0 (c : Dev nD) : k0_off7 c 0#32 = ![c.val, 0, 0] := by revert c; decide

set_option maxHeartbeats 1600000 in
/-- The second stretch: the attention over the device's own block of heads. -/
def block0 (c : Dev nD) : Σ' (G : Prop), G → (sends m ρ c).1 := by
  sl_stretch
  sl_resume
  sl_exec
  iapply (wp_load_wq m ρ c c keep (off6_pl0 c)) $$ Hq0
  iintro Hq0
  iapply lone
  iapply (wp_load_wo m ρ c c keep (off7_pl0 c)) $$ Ho0
  iintro Ho0
  sl_exec
  sl_seam

end Cert.Run

end
-- ==== Proof.Waits.lean ====
/-
# The waits for copies

The wait for a block another device sends, and the wait for a sent block to have left, each as it stands in the run of
device `c`: what it hands over, and the semaphore it is on.
-/
module

public import proofs.«01_k».proof.Proof.Sends

@[expose] public section

noncomputable section

namespace Cert.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-- A slot of the buffer of `Wq` blocks, by its offset. -/
abbrev wqAt (off : Fin 3 → ℕ) (inb : ∀ a, off a + S1x768x512.size a ≤ S4x768x512.size a) : Memref sig .tc .vmem S768x512 .bf16 :=
  (wqM.slice (Rect.unit (s := S4x768x512) off S1x768x512.size inb) (fun _ => rfl)).squeeze S768x512 squeezes_S1x768x512_S768x512
/-- A slot of the buffer of `Wo` blocks, by its offset. -/
abbrev woAt (off : Fin 3 → ℕ) (inb : ∀ a, off a + S1x512x768.size a ≤ S4x512x768.size a) : Memref sig .tc .vmem S512x768 .bf16 :=
  (woM.slice (Rect.unit (s := S4x512x768) off S1x512x768.size inb) (fun _ => rfl)).squeeze S512x768 squeezes_S1x512x768_S512x768

variable (K : Dev nD × Fin 15 → ℕ) (c : Dev nD) {α : Type} {Q : α → sProp (MT nD τ sig Unit (Elt F) ℕ UU ℕ)}

/-- The wait for the `Wq` block of the device `k` places on: its slot, filled. -/
theorem wp_wait_recv_wq (k : Fin 4) (hk : k ≠ 0) {sm : DmaSem sig} (hsm : SemLoc.dma sm = csem (recvK false (pl c k)))
    {off : Fin 3 → ℕ} {inb : ∀ a, off a + S1x768x512.size a ≤ S4x768x512.size a}
    {hsrc hdst : (wqAt off inb).view.WordExact} {W : Waits sig Unit}
    {kont : PUnit → Prog (TpuEff nD τ sig (Elt F) Λ₀ .tc) α} :
    records m ρ K ⊢ iprop(owes (c : Thread nD τ) 0 W -∗ cred (tallyAt (recvCell false c (pl c k)) () (NW false)) -∗ atPos ER (kcell (c, recvK false (pl c k))) 0 ∅ 0
      -∗ ((owes (c : Thread nD τ) 0 (insert (csem (recvK false (pl c k)), ()) W) ∗ atPos ER (kcell (c, recvK false (pl c k))) 1 ∅ 0 ∗ slotPts m ρ false c (pl c k) fullShare)
          -∗ wp frame (wpE (defs₀ (F := F)) 𝒱₀ (c : Thread nD τ) none) Set.univ (kont ⟨⟩) Q)
      -∗ wp frame (wpE (defs₀ (F := F)) 𝒱₀ (c : Thread nD τ) none) Set.univ (.op (.waitDma2 sm (wqAt off inb) (wqAt off inb) hsrc hdst) kont) Q) :=
  curry4 (wp_wait_dma m ρ K c (recvK false (pl c k)) (NW false) (expect_recv m ρ c false (pl c k) (pl_ne c k hk)) _ (rest_recv m ρ c false (pl c k) (pl_ne c k hk)) hsm (src := wqAt off inb) (dst := wqAt off inb) rfl (hsrc := hsrc) (hdst := hdst))

/-- The wait for this device's copy `j` of its `Wq` block to have left: the share of its slot that was lent to it. -/
theorem wp_wait_send_wq (j : Fin 3) {sm : DmaSem sig} (hsm : SemLoc.dma sm = csem (sendK false j))
    {off : Fin 3 → ℕ} {inb : ∀ a, off a + S1x768x512.size a ≤ S4x768x512.size a}
    {hsrc hdst : (wqAt off inb).view.WordExact} {W : Waits sig Unit}
    {kont : PUnit → Prog (TpuEff nD τ sig (Elt F) Λ₀ .tc) α} :
    records m ρ K ⊢ iprop(owes (c : Thread nD τ) 0 W -∗ cred (tallyAt (sendCell false c j) () (NW false)) -∗ atPos ER (kcell (c, sendK false j)) 0 ∅ 0
      -∗ ((owes (c : Thread nD τ) 0 (insert (csem (sendK false j), ()) W) ∗ atPos ER (kcell (c, sendK false j)) 1 ∅ 0 ∗ slotPts m ρ false c c (lend j))
          -∗ wp frame (wpE (defs₀ (F := F)) 𝒱₀ (c : Thread nD τ) none) Set.univ (kont ⟨⟩) Q)
      -∗ wp frame (wpE (defs₀ (F := F)) 𝒱₀ (c : Thread nD τ) none) Set.univ (.op (.waitDma2 sm (wqAt off inb) (wqAt off inb) hsrc hdst) kont) Q) :=
  curry4 (wp_wait_dma m ρ K c (sendK false j) (NW false) (expect_send m ρ c false j) _ (rest_send m ρ c false j) hsm (src := wqAt off inb) (dst := wqAt off inb) rfl (hsrc := hsrc) (hdst := hdst))

/-- The wait for the `Wo` block of the device `k` places on: its slot, filled. -/
theorem wp_wait_recv_wo (k : Fin 4) (hk : k ≠ 0) {sm : DmaSem sig} (hsm : SemLoc.dma sm = csem (recvK true (pl c k)))
    {off : Fin 3 → ℕ} {inb : ∀ a, off a + S1x512x768.size a ≤ S4x512x768.size a}
    {hsrc hdst : (woAt off inb).view.WordExact} {W : Waits sig Unit}
    {kont : PUnit → Prog (TpuEff nD τ sig (Elt F) Λ₀ .tc) α} :
    records m ρ K ⊢ iprop(owes (c : Thread nD τ) 0 W -∗ cred (tallyAt (recvCell true c (pl c k)) () (NW true)) -∗ atPos ER (kcell (c, recvK true (pl c k))) 0 ∅ 0
      -∗ ((owes (c : Thread nD τ) 0 (insert (csem (recvK true (pl c k)), ()) W) ∗ atPos ER (kcell (c, recvK true (pl c k))) 1 ∅ 0 ∗ slotPts m ρ true c (pl c k) fullShare)
          -∗ wp frame (wpE (defs₀ (F := F)) 𝒱₀ (c : Thread nD τ) none) Set.univ (kont ⟨⟩) Q)
      -∗ wp frame (wpE (defs₀ (F := F)) 𝒱₀ (c : Thread nD τ) none) Set.univ (.op (.waitDma2 sm (woAt off inb) (woAt off inb) hsrc hdst) kont) Q) :=
  curry4 (wp_wait_dma m ρ K c (recvK true (pl c k)) (NW true) (expect_recv m ρ c true (pl c k) (pl_ne c k hk)) _ (rest_recv m ρ c true (pl c k) (pl_ne c k hk)) hsm (src := woAt off inb) (dst := woAt off inb) rfl (hsrc := hsrc) (hdst := hdst))

/-- The wait for this device's copy `j` of its `Wo` block to have left: the share of its slot that was lent to it. -/
theorem wp_wait_send_wo (j : Fin 3) {sm : DmaSem sig} (hsm : SemLoc.dma sm = csem (sendK true j))
    {off : Fin 3 → ℕ} {inb : ∀ a, off a + S1x512x768.size a ≤ S4x512x768.size a}
    {hsrc hdst : (woAt off inb).view.WordExact} {W : Waits sig Unit}
    {kont : PUnit → Prog (TpuEff nD τ sig (Elt F) Λ₀ .tc) α} :
    records m ρ K ⊢ iprop(owes (c : Thread nD τ) 0 W -∗ cred (tallyAt (sendCell true c j) () (NW true)) -∗ atPos ER (kcell (c, sendK true j)) 0 ∅ 0
      -∗ ((owes (c : Thread nD τ) 0 (insert (csem (sendK true j), ()) W) ∗ atPos ER (kcell (c, sendK true j)) 1 ∅ 0 ∗ slotPts m ρ true c c (lend j))
          -∗ wp frame (wpE (defs₀ (F := F)) 𝒱₀ (c : Thread nD τ) none) Set.univ (kont ⟨⟩) Q)
      -∗ wp frame (wpE (defs₀ (F := F)) 𝒱₀ (c : Thread nD τ) none) Set.univ (.op (.waitDma2 sm (woAt off inb) (woAt off inb) hsrc hdst) kont) Q) :=
  curry4 (wp_wait_dma m ρ K c (sendK true j) (NW true) (expect_send m ρ c true j) _ (rest_send m ρ c true j) hsm (src := woAt off inb) (dst := woAt off inb) rfl (hsrc := hsrc) (hdst := hdst))

theorem off6_pl (c : Dev nD) (k : Fin 4) : k0_off6 c (BitVec.ofNat 32 k.val) = ![(pl c k).val, 0, 0] := k0_off6_eq c k
theorem off7_pl (c : Dev nD) (k : Fin 4) : k0_off7 c (BitVec.ofNat 32 k.val) = ![(pl c k).val, 0, 0] := k0_off7_eq c k

/-- The semaphores of the waits: those the blocks of the devices one, three and two places on arrive on. -/
theorem arrives_wq (c : Dev nD) (k : Fin 3) {inb : ∀ a, (k0_off10 c (BitVec.ofNat 32 k.succ.val)) a + S1.size a ≤ S4.size a} :
    (SemLoc.dma ((cc0_scratch5.slice (Rect.unit (s := S4) (k0_off10 c (BitVec.ofNat 32 k.succ.val)) S1.size inb)).squeeze S_ squeezes_S1_S_).sem : SemLoc sig)
      = csem (recvK false (pl c k.succ)) := by
  revert c k; decide
theorem arrives_wo (c : Dev nD) (k : Fin 3) {inb : ∀ a, (k0_off10 c (BitVec.ofNat 32 k.succ.val)) a + S1.size a ≤ S4.size a} :
    (SemLoc.dma ((cc0_scratch7.slice (Rect.unit (s := S4) (k0_off10 c (BitVec.ofNat 32 k.succ.val)) S1.size inb)).squeeze S_ squeezes_S1_S_).sem : SemLoc sig)
      = csem (recvK true (pl c k.succ)) := by
  revert c k; decide

end Cert.Run

end
-- ==== Proof.Block1.lean ====
/-
# The run over the block of the device one place on
-/
module

public import proofs.«01_k».proof.Proof.Block0
public import proofs.«01_k».proof.Proof.Waits

@[expose] public section

noncomputable section

namespace Cert.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

set_option maxHeartbeats 1600000 in
/-- The attention over the block of heads of the device one place on, once it has arrived. -/
def block1 (c : Dev nD) : Σ' (G : Prop), G → (block0 m ρ c).1 := by
  sl_stretch
  sl_resume
  iapply (wp_wait_recv_wq m ρ K c 1 (by decide) (arrives_wq c 0)) $$ HR HO HcR1 HaR1
  iintro ⟨HO, HaR1, Hq1⟩
  iapply lone
  iapply (wp_wait_recv_wo m ρ K c 1 (by decide) (arrives_wo c 0)) $$ HR HO HcU1 HaU1
  iintro ⟨HO, HaU1, Ho1⟩
  iapply lone
  iapply (wp_load_wq m ρ c (pl c 1) fullShare (off6_pl c 1)) $$ Hq1
  iintro Hq1
  iapply lone
  iapply (wp_load_wo m ρ c (pl c 1) fullShare (off7_pl c 1)) $$ Ho1
  iintro Ho1
  sl_exec
  sl_seam

end Cert.Run

end
-- ==== Proof.Block3.lean ====
/-
# The run over the block of the device three places on
-/
module

public import proofs.«01_k».proof.Proof.Block1

@[expose] public section

noncomputable section

namespace Cert.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

set_option maxHeartbeats 1600000 in
/-- The attention over the block of heads of the device three places on, once it has arrived. -/
def block3 (c : Dev nD) : Σ' (G : Prop), G → (block1 m ρ c).1 := by
  sl_stretch
  sl_resume
  iapply (wp_wait_recv_wq m ρ K c 3 (by decide) (arrives_wq c 2)) $$ HR HO HcR3 HaR3
  iintro ⟨HO, HaR3, Hq3⟩
  iapply lone
  iapply (wp_wait_recv_wo m ρ K c 3 (by decide) (arrives_wo c 2)) $$ HR HO HcU3 HaU3
  iintro ⟨HO, HaU3, Ho3⟩
  iapply lone
  iapply (wp_load_wq m ρ c (pl c 3) fullShare (off6_pl c 3)) $$ Hq3
  iintro Hq3
  iapply lone
  iapply (wp_load_wo m ρ c (pl c 3) fullShare (off7_pl c 3)) $$ Ho3
  iintro Ho3
  sl_exec
  sl_seam

end Cert.Run

end
-- ==== Proof.Block2.lean ====
/-
# The run over the block of the device two places on
-/
module

public import proofs.«01_k».proof.Proof.Block3

@[expose] public section

noncomputable section

namespace Cert.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

set_option maxHeartbeats 1600000 in
/-- The attention over the block of heads of the device two places on, once it has arrived. -/
def block2 (c : Dev nD) : Σ' (G : Prop), G → (block3 m ρ c).1 := by
  sl_stretch
  sl_resume
  iapply (wp_wait_recv_wq m ρ K c 2 (by decide) (arrives_wq c 1)) $$ HR HO HcR2 HaR2
  iintro ⟨HO, HaR2, Hq2⟩
  iapply lone
  iapply (wp_wait_recv_wo m ρ K c 2 (by decide) (arrives_wo c 1)) $$ HR HO HcU2 HaU2
  iintro ⟨HO, HaU2, Ho2⟩
  iapply lone
  iapply (wp_load_wq m ρ c (pl c 2) fullShare (off6_pl c 2)) $$ Hq2
  iintro Hq2
  iapply lone
  iapply (wp_load_wo m ρ c (pl c 2) fullShare (off7_pl c 2)) $$ Ho2
  iintro Ho2
  sl_exec
  sl_seam

end Cert.Run

end
-- ==== Proof.Rows.lean ====
/-
# The rows of the result

What the program computes from what it loads, round by round, is the rounds of attention on the arrays.
-/
module

public import proofs.«01_k».proof.Proof.Block2
public import Idealize.ShloMosaic.Lib.Pipeline.ReadBack

@[expose] public section

noncomputable section

namespace Cert.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

variable (c : Dev nD)

/-! ## What the program's loads read -/

/-- Batch row `b` of the activations, as it is loaded. -/
abbrev xLoad (b : Fin 2) : FVec F S1x512x768 .bf16 :=
  (Memref.whole cc0_stg0_0 : Memref sig .tc .vmem S2x512x768 .bf16).view.readAt (Elt F)
    (Rect.unit (s := S2x512x768) ![b.val, 0, 0] S1x512x768.size (by revert b; decide)).toLoadRect (xStg m ρ c)
/-- A box of the keys' heads, and of the values', as it is loaded. -/
abbrev kLoad (off : Fin 3 → ℕ) (inb : ∀ a, off a + S1x512x512.size a ≤ S2x512x2048.size a) : FVec F S1x512x512 .bf16 :=
  (Memref.whole cc0_scratch2 : Memref sig .tc .vmem S2x512x2048 .bf16).view.readAt (Elt F)
    (Rect.unit (s := S2x512x2048) off S1x512x512.size inb).toLoadRect (sideBySide (kStg m ρ c))
abbrev vLoad (off : Fin 3 → ℕ) (inb : ∀ a, off a + S1x512x512.size a ≤ S2x512x2048.size a) : FVec F S1x512x512 .bf16 :=
  (Memref.whole cc0_scratch3 : Memref sig .tc .vmem S2x512x2048 .bf16).view.readAt (Elt F)
    (Rect.unit (s := S2x512x2048) off S1x512x512.size inb).toLoadRect (sideBySide (vStg m ρ c))

theorem x_loaded (b : Fin 2) : shapeCast S512x768 (xLoad m ρ c b) shapeCasts_S1x512x768_S512x768 = xRow m ρ c b := by
  funext i
  obtain ⟨i0, i1, rfl⟩ : ∃ a b, i = ix2 a b := ⟨i 0, i 1, by funext a; fin_cases a <;> rfl⟩
  refine (shapeCast_dropUnit_apply _ _ _ _).trans ?_
  show (Memref.whole cc0_stg0_0 : Memref sig .tc .vmem S2x512x768 .bf16).view.readAt (Elt F) _ _ _ = _
  rw [View.readAt_rect, View.read_apply]
  unfold xRow
  refine congrArg (xStg m ρ c) (funext fun a => Fin.ext ?_)
  refine (ValueKit.rect_emb_unit_val _ _ _ _ a).trans ?_
  fin_cases a <;> simp [ix3] <;> rfl

theorem box_loaded (g : FVec F S2x512x2048 .bf16) (b : Fin 2) (o : Dev nD) {off : Fin 3 → ℕ} (h : off = ![b.val, 0, 512 * o.val])
    (inb : ∀ a, off a + S1x512x512.size a ≤ S2x512x2048.size a) (w : FVec F S1x512x512 .bf16)
    (hw : ∀ x, w x = g ((Rect.unit (s := S2x512x2048) off S1x512x512.size inb).emb x)) :
    shapeCast S512x512 w shapeCasts_S1x512x512_S512x512 = cols g b o := by
  funext i
  refine (shapeCast_dropUnit_apply _ _ _ _).trans ?_
  rw [hw]
  unfold cols
  refine congrArg g (funext fun a => Fin.ext ?_)
  refine (ValueKit.rect_emb_unit_val _ _ _ _ a).trans ?_
  subst h
  fin_cases a <;> simp [ix3] <;> rfl

theorem k_loaded (b : Fin 2) (o : Dev nD) {off : Fin 3 → ℕ} (h : off = ![b.val, 0, 512 * o.val]) (inb : ∀ a, off a + S1x512x512.size a ≤ S2x512x2048.size a) :
    shapeCast S512x512 (kLoad m ρ c off inb) shapeCasts_S1x512x512_S512x512 = cols (kHm m ρ c) b o :=
  box_loaded _ b o h inb _ fun _ => rfl
theorem v_loaded (b : Fin 2) (o : Dev nD) {off : Fin 3 → ℕ} (h : off = ![b.val, 0, 512 * o.val]) (inb : ∀ a, off a + S1x512x512.size a ≤ S2x512x2048.size a) :
    shapeCast S512x512 (vLoad m ρ c off inb) shapeCasts_S1x512x512_S512x512 = cols (vHm m ρ c) b o :=
  box_loaded _ b o h inb _ fun _ => rfl

theorem wq_loaded (o : Dev nD) : shapeCast S768x512 (wqVal m ρ o) shapeCasts_S1x768x512_S768x512 = wqStg m ρ o :=
  funext fun i => (shapeCast_dropUnit_apply _ _ _ _).trans rfl
theorem wo_loaded (o : Dev nD) : shapeCast S512x768 (woVal m ρ o) shapeCasts_S1x512x768_S512x768 = woStg m ρ o :=
  funext fun i => (shapeCast_dropUnit_apply _ _ _ _).trans rfl

/-- One round on what the program loads is the round on the arrays. -/
theorem round_loaded (b : Fin 2) (o : Dev nD) {off off' : Fin 3 → ℕ} (h : off = ![b.val, 0, 512 * o.val]) (h' : off' = ![b.val, 0, 512 * o.val])
    (inb : ∀ a, off a + S1x512x512.size a ≤ S2x512x2048.size a) (inb' : ∀ a, off' a + S1x512x512.size a ≤ S2x512x2048.size a) (a : FVec F S1x512x768 .f32) :
    round (bias c) (shapeCast S512x768 (xLoad m ρ c b) shapeCasts_S1x512x768_S512x768) (shapeCast S768x512 (wqVal m ρ o) shapeCasts_S1x768x512_S768x512)
      (shapeCast S512x768 (woVal m ρ o) shapeCasts_S1x512x768_S512x768) (shapeCast S512x512 (kLoad m ρ c off inb) shapeCasts_S1x512x512_S512x512)
      (shapeCast S512x512 (vLoad m ρ c off' inb') shapeCasts_S1x512x512_S512x512) a = step m ρ c b o a := by
  rw [x_loaded, wq_loaded, wo_loaded, k_loaded m ρ c b o h, v_loaded m ρ c b o h']
  rfl

abbrev row0 : Rect S2x512x768 := Rect.unit (s := S2x512x768) ![0, 0, 0] S1x512x768.size inb_S2x512x768_S1x512x768_0_0_0
abbrev row1 : Rect S2x512x768 := Rect.unit (s := S2x512x768) ![1, 0, 0] S1x512x768.size inb_S2x512x768_S1x512x768_1_0_0

theorem rows_disjoint : Disjoint row1.set row0.toLoadRect.set := Rect.unit_disjoint (s := S2x512x768) 0 (Or.inr (by decide))
theorem rows_disjoint' : Disjoint row0.set row1.toLoadRect.set := Rect.unit_disjoint (s := S2x512x768) 0 (Or.inl (by decide))

/-- What a load of one part reads after a store of it and then a store of another part. -/
theorem part_read {s : Shape} (v : View sig .tc .vmem s .f32) (r r' : Rect s) (h : Disjoint r'.set r.toLoadRect.set) (a : r.shape.Idx → Elt F .f32) (b : r'.shape.Idx → Elt F .f32)
    (l : List (View.Piece (Elt F) s .f32)) : v.readCov (⟨r', b⟩ :: ⟨r, a⟩ :: l) r.toLoadRect = a :=
  (View.readCov_cons_of_disjoint v ⟨r', b⟩ (⟨r, a⟩ :: l) r.toLoadRect h).trans (View.readCov_cons_toLoadRect v r a l)

theorem k0_off8_own (c : Dev nD) : k0_off8 c 0#32 = ![(0 : Fin 2).val, 0, 512 * c.val] := by revert c; decide
theorem k0_off9_own (c : Dev nD) : k0_off9 c 0#32 = ![(1 : Fin 2).val, 0, 512 * c.val] := by revert c; decide

/-! ## The rows after each round -/

theorem block0_row0 : block0.sl.v416 m ρ c = step m ρ c 0 c k0_pay31 := by
  have e : block0.sl.v410 = k0_pay31 := part_read (F := F) _ row0 row1 rows_disjoint k0_pay31 _ _
  have e' : block0.sl.v416 m ρ c = round (bias c) (shapeCast S512x768 (xLoad m ρ c 0) shapeCasts_S1x512x768_S512x768) (shapeCast S768x512 (wqVal m ρ c) shapeCasts_S1x768x512_S768x512)
      (shapeCast S512x768 (woVal m ρ c) shapeCasts_S1x512x768_S512x768) (shapeCast S512x512 (kLoad m ρ c (k0_off8 c 0#32) (k0_off8_inb c 0)) shapeCasts_S1x512x512_S512x512)
      (shapeCast S512x512 (vLoad m ρ c (k0_off8 c 0#32) (k0_off8_inb c 0)) shapeCasts_S1x512x512_S512x512) (block0.sl.v410) := rfl
  rw [e', e]
  exact round_loaded m ρ c 0 c (k0_off8_own c) (k0_off8_own c) _ _ _

theorem block0_row1 : block0.sl.v554 m ρ c = step m ρ c 1 c k0_pay31 := by
  have e : block0.sl.v548 m ρ c = k0_pay31 := part_read (F := F) _ row1 row0 rows_disjoint' k0_pay31 _ _
  have e' : block0.sl.v554 m ρ c = round (bias c) (shapeCast S512x768 (xLoad m ρ c 1) shapeCasts_S1x512x768_S512x768) (shapeCast S768x512 (wqVal m ρ c) shapeCasts_S1x768x512_S768x512)
      (shapeCast S512x768 (woVal m ρ c) shapeCasts_S1x512x768_S512x768) (shapeCast S512x512 (kLoad m ρ c (k0_off9 c 0#32) (k0_off9_inb c 0)) shapeCasts_S1x512x512_S512x512)
      (shapeCast S512x512 (vLoad m ρ c (k0_off9 c 0#32) (k0_off9_inb c 0)) shapeCasts_S1x512x512_S512x512) (block0.sl.v548 m ρ c) := rfl
  rw [e', e]
  exact round_loaded m ρ c 1 c (k0_off9_own c) (k0_off9_own c) _ _ _

theorem block1_row0 : block1.sl.v716 m ρ c = step m ρ c 0 (pl c 1) (block0.sl.v416 m ρ c) := by
  have e : block1.sl.v710 m ρ c = (block0.sl.v416 m ρ c) := part_read (F := F) _ row0 row1 rows_disjoint (block0.sl.v416 m ρ c) _ _
  have e' : block1.sl.v716 m ρ c = round (bias c) (shapeCast S512x768 (xLoad m ρ c 0) shapeCasts_S1x512x768_S512x768) (shapeCast S768x512 (wqVal m ρ (pl c 1)) shapeCasts_S1x768x512_S768x512)
      (shapeCast S512x768 (woVal m ρ (pl c 1)) shapeCasts_S1x512x768_S512x768) (shapeCast S512x512 (kLoad m ρ c (k0_off8 c 1#32) (k0_off8_inb c 1)) shapeCasts_S1x512x512_S512x512)
      (shapeCast S512x512 (vLoad m ρ c (k0_off8 c 1#32) (k0_off8_inb c 1)) shapeCasts_S1x512x512_S512x512) (block1.sl.v710 m ρ c) := rfl
  rw [e', e]
  exact round_loaded m ρ c 0 (pl c 1) (k0_off8_eq c 1) (k0_off8_eq c 1) _ _ _

theorem block1_row1 : block1.sl.v854 m ρ c = step m ρ c 1 (pl c 1) (block0.sl.v554 m ρ c) := by
  have e : block1.sl.v848 m ρ c = (block0.sl.v554 m ρ c) := part_read (F := F) _ row1 row0 rows_disjoint' (block0.sl.v554 m ρ c) _ _
  have e' : block1.sl.v854 m ρ c = round (bias c) (shapeCast S512x768 (xLoad m ρ c 1) shapeCasts_S1x512x768_S512x768) (shapeCast S768x512 (wqVal m ρ (pl c 1)) shapeCasts_S1x768x512_S768x512)
      (shapeCast S512x768 (woVal m ρ (pl c 1)) shapeCasts_S1x512x768_S512x768) (shapeCast S512x512 (kLoad m ρ c (k0_off9 c 1#32) (k0_off9_inb c 1)) shapeCasts_S1x512x512_S512x512)
      (shapeCast S512x512 (vLoad m ρ c (k0_off9 c 1#32) (k0_off9_inb c 1)) shapeCasts_S1x512x512_S512x512) (block1.sl.v848 m ρ c) := rfl
  rw [e', e]
  exact round_loaded m ρ c 1 (pl c 1) (k0_off9_eq c 1) (k0_off9_eq c 1) _ _ _

theorem block3_row0 : block3.sl.v1016 m ρ c = step m ρ c 0 (pl c 3) (block1.sl.v716 m ρ c) := by
  have e : block3.sl.v1010 m ρ c = (block1.sl.v716 m ρ c) := part_read (F := F) _ row0 row1 rows_disjoint (block1.sl.v716 m ρ c) _ _
  have e' : block3.sl.v1016 m ρ c = round (bias c) (shapeCast S512x768 (xLoad m ρ c 0) shapeCasts_S1x512x768_S512x768) (shapeCast S768x512 (wqVal m ρ (pl c 3)) shapeCasts_S1x768x512_S768x512)
      (shapeCast S512x768 (woVal m ρ (pl c 3)) shapeCasts_S1x512x768_S512x768) (shapeCast S512x512 (kLoad m ρ c (k0_off8 c 3#32) (k0_off8_inb c 3)) shapeCasts_S1x512x512_S512x512)
      (shapeCast S512x512 (vLoad m ρ c (k0_off8 c 3#32) (k0_off8_inb c 3)) shapeCasts_S1x512x512_S512x512) (block3.sl.v1010 m ρ c) := rfl
  rw [e', e]
  exact round_loaded m ρ c 0 (pl c 3) (k0_off8_eq c 3) (k0_off8_eq c 3) _ _ _

theorem block3_row1 : block3.sl.v1154 m ρ c = step m ρ c 1 (pl c 3) (block1.sl.v854 m ρ c) := by
  have e : block3.sl.v1148 m ρ c = (block1.sl.v854 m ρ c) := part_read (F := F) _ row1 row0 rows_disjoint' (block1.sl.v854 m ρ c) _ _
  have e' : block3.sl.v1154 m ρ c = round (bias c) (shapeCast S512x768 (xLoad m ρ c 1) shapeCasts_S1x512x768_S512x768) (shapeCast S768x512 (wqVal m ρ (pl c 3)) shapeCasts_S1x768x512_S768x512)
      (shapeCast S512x768 (woVal m ρ (pl c 3)) shapeCasts_S1x512x768_S512x768) (shapeCast S512x512 (kLoad m ρ c (k0_off9 c 3#32) (k0_off9_inb c 3)) shapeCasts_S1x512x512_S512x512)
      (shapeCast S512x512 (vLoad m ρ c (k0_off9 c 3#32) (k0_off9_inb c 3)) shapeCasts_S1x512x512_S512x512) (block3.sl.v1148 m ρ c) := rfl
  rw [e', e]
  exact round_loaded m ρ c 1 (pl c 3) (k0_off9_eq c 3) (k0_off9_eq c 3) _ _ _

theorem block2_row0 : block2.sl.v1316 m ρ c = step m ρ c 0 (pl c 2) (block3.sl.v1016 m ρ c) := by
  have e : block2.sl.v1310 m ρ c = (block3.sl.v1016 m ρ c) := part_read (F := F) _ row0 row1 rows_disjoint (block3.sl.v1016 m ρ c) _ _
  have e' : block2.sl.v1316 m ρ c = round (bias c) (shapeCast S512x768 (xLoad m ρ c 0) shapeCasts_S1x512x768_S512x768) (shapeCast S768x512 (wqVal m ρ (pl c 2)) shapeCasts_S1x768x512_S768x512)
      (shapeCast S512x768 (woVal m ρ (pl c 2)) shapeCasts_S1x512x768_S512x768) (shapeCast S512x512 (kLoad m ρ c (k0_off8 c 2#32) (k0_off8_inb c 2)) shapeCasts_S1x512x512_S512x512)
      (shapeCast S512x512 (vLoad m ρ c (k0_off8 c 2#32) (k0_off8_inb c 2)) shapeCasts_S1x512x512_S512x512) (block2.sl.v1310 m ρ c) := rfl
  rw [e', e]
  exact round_loaded m ρ c 0 (pl c 2) (k0_off8_eq c 2) (k0_off8_eq c 2) _ _ _

theorem block2_row1 : block2.sl.v1454 m ρ c = step m ρ c 1 (pl c 2) (block3.sl.v1154 m ρ c) := by
  have e : block2.sl.v1448 m ρ c = (block3.sl.v1154 m ρ c) := part_read (F := F) _ row1 row0 rows_disjoint' (block3.sl.v1154 m ρ c) _ _
  have e' : block2.sl.v1454 m ρ c = round (bias c) (shapeCast S512x768 (xLoad m ρ c 1) shapeCasts_S1x512x768_S512x768) (shapeCast S768x512 (wqVal m ρ (pl c 2)) shapeCasts_S1x768x512_S768x512)
      (shapeCast S512x768 (woVal m ρ (pl c 2)) shapeCasts_S1x512x768_S512x768) (shapeCast S512x512 (kLoad m ρ c (k0_off9 c 2#32) (k0_off9_inb c 2)) shapeCasts_S1x512x512_S512x512)
      (shapeCast S512x512 (vLoad m ρ c (k0_off9 c 2#32) (k0_off9_inb c 2)) shapeCasts_S1x512x512_S512x512) (block2.sl.v1448 m ρ c) := rfl
  rw [e', e]
  exact round_loaded m ρ c 1 (pl c 2) (k0_off9_eq c 2) (k0_off9_eq c 2) _ _ _

/-- Batch row `0` at the end. -/
theorem row0_eq : block2.sl.v1316 m ρ c = outRow m ρ c 0 := by
  rw [block2_row0, block3_row0, block1_row0, block0_row0]
  rfl

/-- Batch row `1` at the end. -/
theorem row1_eq : block2.sl.v1454 m ρ c = outRow m ρ c 1 := by
  rw [block2_row1, block3_row1, block1_row1, block0_row1]
  rfl

end Cert.Run

end
-- ==== Proof.Finish.lean ====
/-
# The run's end
-/
module

public import proofs.«01_k».proof.Proof.Rows

@[expose] public section

noncomputable section

namespace Cert.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-- A semaphore whose round is over is closed, its counter zero. -/
theorem close_used (K : Dev nD × Fin 15 → ℕ) (c : Dev nD) (k : Fin 15) :
    (records m ρ K : sProp 𝕄) ⊢ iprop(atPos ER (kcell (c, k)) 1 ∅ 0 -∗ |={Set.univ}=> semVal (kcell (c, k)) 0) := by
  iintro #HR Ha
  iapply (Rounds.cell_close ER (xRd m ρ) (Set.mem_univ (K (c, k))) (fun h => h) (R := 1) (duties_later m ρ (kcell (c, k))))
  isplitr; · iapply (records_inv m ρ K (c, k)); iexact HR
  iexact Ha

/-- The semaphores for the device's own block, on which nothing arrives, are closed too. -/
theorem close_own (K : Dev nD × Fin 15 → ℕ) (c : Dev nD) (a : Bool) :
    (records m ρ K : sProp 𝕄) ⊢ iprop(atPos ER (kcell (c, recvK a c)) 0 ∅ 0 -∗ |={Set.univ}=> semVal (kcell (c, recvK a c)) 0) := by
  iintro #HR Ha
  iapply (Rounds.cell_close ER (xRd m ρ) (Set.mem_univ (K (c, recvK a c))) (fun h => h) (R := 0)
    (fun r _ => r.eq_zero_or_pos.elim (fun e => e ▸ duties_own m ρ c a) (duties_later m ρ _ r)))
  isplitr; · iapply (records_inv m ρ K (c, recvK a c)); iexact HR
  iexact Ha

/-- The shares of the device's own slot, and the other three slots, are the whole buffer again. -/
theorem wq_back (c : Dev nD) : iprop(slotPts m ρ false c c (lend 0) ∗ slotPts m ρ false c c (lend 1) ∗ slotPts m ρ false c c (lend 2) ∗ slotPts m ρ false c c keep
      ∗ slotPts m ρ false c (pl c 1) fullShare ∗ slotPts m ρ false c (pl c 2) fullShare ∗ slotPts m ρ false c (pl c 3) fullShare)
    ⊢ (iprop(∃ f : Buf (Elt F) ((c : Thread nD τ).loc cc0_scratch0), (c : Thread nD τ).loc cc0_scratch0 ↦{fullShare} f) : sProp 𝕄) := by
  iintro ⟨H0, H1, H2, H3, Ha, Hb, Hc⟩
  iapply (wq_join m ρ c)
  rw [devs_eq c]
  isplitl [H0 H1 H2 H3]
  · iapply (own_shares m ρ c false c).2
    isplitl [H0 H1]
    · isplitl [H0]; · iexact H0
      iexact H1
    isplitl [H2]; · iexact H2
    iexact H3
  isplitl [Ha]; · iexact Ha
  isplitl [Hb]; · iexact Hb
  iexact Hc
theorem wo_back (c : Dev nD) : iprop(slotPts m ρ true c c (lend 0) ∗ slotPts m ρ true c c (lend 1) ∗ slotPts m ρ true c c (lend 2) ∗ slotPts m ρ true c c keep
      ∗ slotPts m ρ true c (pl c 1) fullShare ∗ slotPts m ρ true c (pl c 2) fullShare ∗ slotPts m ρ true c (pl c 3) fullShare)
    ⊢ (iprop(∃ f : Buf (Elt F) ((c : Thread nD τ).loc cc0_scratch1), (c : Thread nD τ).loc cc0_scratch1 ↦{fullShare} f) : sProp 𝕄) := by
  iintro ⟨H0, H1, H2, H3, Ha, Hb, Hc⟩
  iapply (wo_join m ρ c)
  rw [devs_eq c]
  isplitl [H0 H1 H2 H3]
  · iapply (own_shares m ρ c true c).2
    isplitl [H0 H1]
    · isplitl [H0]; · iexact H0
      iexact H1
    isplitl [H2]; · iexact H2
    iexact H3
  isplitl [Ha]; · iexact Ha
  isplitl [Hb]; · iexact Hb
  iexact Hc

/-- An element of the part written last; -/
theorem last_at {s : Shape} (v : View sig .tc .vmem s .f32) (f : v.ty.Contents (Elt F)) (r : Rect s) (a : r.shape.Idx → Elt F .f32)
    (l : List (View.Piece (Elt F) s .f32)) (y : s.Idx) (x : r.shape.Idx) (hx : ∀ d, (y d).val = r.off d + r.stride d * (x d).val) :
    v.read (Elt F) (v.writes (Elt F) f (⟨r, a⟩ :: l)) y = a x :=
  View.read_writes_cons_hit_of_coords v f r a l x y hx
/-- an element of the part written before it. -/
theorem before_at {s : Shape} (v : View sig .tc .vmem s .f32) (f : v.ty.Contents (Elt F)) (r r' : Rect s) (h : Disjoint r'.set r.toLoadRect.set) (a : r.shape.Idx → Elt F .f32)
    (b : r'.shape.Idx → Elt F .f32) (l : List (View.Piece (Elt F) s .f32)) (y : s.Idx) (x : r.shape.Idx) (hx : ∀ d, (y d).val = r.off d + r.stride d * (x d).val) :
    v.read (Elt F) (v.writes (Elt F) f (⟨r', b⟩ :: ⟨r, a⟩ :: l)) y = a x := by
  have hy : y = r.emb x := (r.emb_eq_of_coords x y hx).symm
  have hm : y ∉ r'.set := fun hm => Finset.disjoint_left.mp h hm (by rw [hy]; exact r.toLoadRect.idx_mem x)
  rw [View.read_writes_cons_miss v f ⟨r', b⟩ (⟨r, a⟩ :: l) y hm]
  exact last_at v f r a l y x hx

/-- The position in its row of an element of the result, -/
def inRow (r : Rect S2x512x768) (h : r.size = ![1, 512, 768]) (y : S2x512x768.Idx) : r.shape.Idx := fun d => ⟨(![0, (y 1 : Nat), (y 2 : Nat)] : Fin 3 → ℕ) d, by
  have h1 : (y 1 : Nat) < 512 := (y 1).isLt
  have h2 : (y 2 : Nat) < 768 := (y 2).isLt
  show _ < r.size d
  rw [h]
  fin_cases d
  · exact Nat.one_pos
  · exact h1
  · exact h2⟩

/-- A buffer whose two rows were written last holds the two rows. -/
theorem out_rows (v : View sig .tc .vmem S2x512x768 .f32) (f : v.ty.Contents (Elt F)) (a : row0.shape.Idx → Elt F .f32) (b : row1.shape.Idx → Elt F .f32)
    (l : List (View.Piece (Elt F) S2x512x768 .f32)) :
    v.read (Elt F) (v.writes (Elt F) f (⟨row1, b⟩ :: ⟨row0, a⟩ :: l)) = rows a b := by
  funext y
  have hy : (y 0 : Nat) < 2 := (y 0).isLt
  by_cases h : (y 0 : Nat) = 0
  · refine (before_at v f row0 row1 rows_disjoint a b l y (inRow row0 rfl y) (fun d => ?_)).trans ?_
    · fin_cases d
      · exact h
      · show (y 1 : Nat) = 0 + 1 * (y 1 : Nat); omega
      · show (y 2 : Nat) = 0 + 1 * (y 2 : Nat); omega
    · unfold rows
      rw [if_pos h]
      exact congrArg a (funext fun d => by fin_cases d <;> rfl)
  · refine (last_at v f row1 b _ y (inRow row1 rfl y) (fun d => ?_)).trans ?_
    · fin_cases d
      · show (y 0 : Nat) = 1 + 1 * 0; omega
      · show (y 1 : Nat) = 0 + 1 * (y 1 : Nat); omega
      · show (y 2 : Nat) = 0 + 1 * (y 2 : Nat); omega
    · unfold rows
      rw [if_neg h]
      exact congrArg b (funext fun d => by fin_cases d <;> rfl)

/-- The result's buffer at the end. -/
theorem out_final (c : Dev nD) (f : FVec F S2x512x768 .f32) (l : List (View.Piece (Elt F) S2x512x768 .f32)) :
    ((Memref.whole cc0_stg5_0).view.loc (c : Thread nD τ) ↦{fullShare} (Memref.whole cc0_stg5_0 : Memref sig .tc .vmem S2x512x768 .f32).view.writes (Elt F) f l : sProp 𝕄)
      ⊢ iprop(⌜l = ⟨row1, block2.sl.v1454 m ρ c⟩ :: block2.sl.Hout_9 m ρ c⌝ -∗ (Memref.whole cc0_stg5_0).view.loc (c : Thread nD τ) ↦{fullShare} outAt m ρ c) := by
  iintro H %e
  subst e
  have e : (Memref.whole cc0_stg5_0 : Memref sig .tc .vmem S2x512x768 .f32).view.writes (Elt F) f (⟨row1, block2.sl.v1454 m ρ c⟩ :: block2.sl.Hout_9 m ρ c) = outAt m ρ c :=
    (View.read_whole cc0_stg5_0 _).symm.trans ((out_rows (View.whole cc0_stg5_0) f (block2.sl.v1316 m ρ c) (block2.sl.v1454 m ρ c) _).trans (congrArg₂ rows (row0_eq m ρ c) (row1_eq m ρ c)))
  rw [e]
  iexact H

set_option maxHeartbeats 1600000 in
/-- Device `c`'s run. -/
theorem runs (c : Dev nD) : Runs m ρ c := by
  refine (sends m ρ c).2 ((block0 m ρ c).2 ((block1 m ρ c).2 ((block3 m ρ c).2 ((block2 m ρ c).2 ?_))))
  sl_resume
  iapply (wp_wait_send_wq m ρ K c 0 (sem4_eq 0)) $$ HR HO HcS0 HaS0
  iintro ⟨HO, HaS0, Hl0⟩
  iapply lone
  iapply (wp_wait_send_wo m ρ K c 0 (sem6_eq 0)) $$ HR HO HcT0 HaT0
  iintro ⟨HO, HaT0, Hm0⟩
  iapply lone
  iapply (wp_wait_send_wq m ρ K c 1 (sem4_eq 1)) $$ HR HO HcS1 HaS1
  iintro ⟨HO, HaS1, Hl1⟩
  iapply lone
  iapply (wp_wait_send_wo m ρ K c 1 (sem6_eq 1)) $$ HR HO HcT1 HaT1
  iintro ⟨HO, HaT1, Hm1⟩
  sl_exec
  iapply (wp_wait_send_wq m ρ K c 2 (sem4_eq 2)) $$ HR HO HcS2 HaS2
  iintro ⟨HO, HaS2, Hl2⟩
  iapply (wp_wait_send_wo m ρ K c 2 (sem6_eq 2)) $$ HR HO HcT2 HaT2
  iintro ⟨HO, HaT2, Hm2⟩
  imod (close_used m ρ K c _) $$ HR HaB with HzB
  imod (close_used m ρ K c _) $$ HR HaS0 with HzS0
  imod (close_used m ρ K c _) $$ HR HaT0 with HzT0
  imod (close_used m ρ K c _) $$ HR HaS1 with HzS1
  imod (close_used m ρ K c _) $$ HR HaT1 with HzT1
  imod (close_used m ρ K c _) $$ HR HaS2 with HzS2
  imod (close_used m ρ K c _) $$ HR HaT2 with HzT2
  imod (close_used m ρ K c _) $$ HR HaR1 with HzR1
  imod (close_used m ρ K c _) $$ HR HaU1 with HzU1
  imod (close_used m ρ K c _) $$ HR HaR3 with HzR3
  imod (close_used m ρ K c _) $$ HR HaU3 with HzU3
  imod (close_used m ρ K c _) $$ HR HaR2 with HzR2
  imod (close_used m ρ K c _) $$ HR HaU2 with HzU2
  imod (close_own m ρ K c false) $$ HR HaR0 with HzR0
  imod (close_own m ρ K c true) $$ HR HaU0 with HzU0
  sl_step
  iapply Hcont
  unfold runPost scr ins
  rw [sems_eq c]
  isplitl [HzB HzS0 HzT0 HzS1 HzT1 HzS2 HzT2 HzR1 HzU1 HzR3 HzU3 HzR2 HzU2 HzR0 HzU0]
  · isplitl [HzB]; · iexact HzB
    isplitl [HzS0]; · iexact HzS0
    isplitl [HzT0]; · iexact HzT0
    isplitl [HzS1]; · iexact HzS1
    isplitl [HzT1]; · iexact HzT1
    isplitl [HzS2]; · iexact HzS2
    isplitl [HzT2]; · iexact HzT2
    isplitl [HzR1]; · iexact HzR1
    isplitl [HzU1]; · iexact HzU1
    isplitl [HzR3]; · iexact HzR3
    isplitl [HzU3]; · iexact HzU3
    isplitl [HzR2]; · iexact HzR2
    isplitl [HzU2]; · iexact HzU2
    isplitl [HzR0]; · iexact HzR0
    iexact HzU0
  isplitl [Hs2 Hs3 Hq0 Ho0 Hq1 Ho1 Hq2 Ho2 Hq3 Ho3 Hl0 Hl1 Hl2 Hm0 Hm1 Hm2]
  · isplitl [Hq0 Hq1 Hq2 Hq3 Hl0 Hl1 Hl2]
    · iapply (wq_back m ρ c)
      isplitl [Hl0]; · iexact Hl0
      isplitl [Hl1]; · iexact Hl1
      isplitl [Hl2]; · iexact Hl2
      isplitl [Hq0]; · iexact Hq0
      isplitl [Hq1]; · iexact Hq1
      isplitl [Hq2]; · iexact Hq2
      iexact Hq3
    isplitl [Ho0 Ho1 Ho2 Ho3 Hm0 Hm1 Hm2]
    · iapply (wo_back m ρ c)
      isplitl [Hm0]; · iexact Hm0
      isplitl [Hm1]; · iexact Hm1
      isplitl [Hm2]; · iexact Hm2
      isplitl [Ho0]; · iexact Ho0
      isplitl [Ho1]; · iexact Ho1
      isplitl [Ho2]; · iexact Ho2
      iexact Ho3
    isplitl [Hs2]; · iexists _; iexact Hs2
    iexists _; iexact Hs3
  isplitl [HO]; · iexists _; iexact HO
  isplitl [Hx Hwq Hk Hv Hwo]
  · isplitl [Hx]; · iexact Hx
    isplitl [Hwq]; · iexact Hwq
    isplitl [Hk]; · iexact Hk
    isplitl [Hv]; · iexact Hv
    iexact Hwo
  iapply (out_final m ρ c f5 _) $$ Hout
  ipureintro; rfl

end Cert.Run

end
-- ==== Proof.Ghost.lean ====
/-
# What the devices start from

Every duty's token is dealt to the device that pays it, every cell's invariant is set up before the first step and is
known to all, and the credit each device starts with is what the others owe it.
-/
module

public import proofs.«01_k».proof.Proof.Sends

@[expose] public section

noncomputable section

namespace Cert.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The tokens -/

/-- The fifteen duties device `d` pays, in the order of `toks`. -/
abbrev pays (d : Dev nD) : Fin 15 → Dev nD × Fin 15 :=
  ![(pl d 1, 0), (pl d 2, 0), (pl d 3, 0), (d, sendK false 0), (d, sendK true 0), (d, sendK false 1), (d, sendK true 1), (d, sendK false 2), (d, sendK true 2),
    (pl d 1, recvK false d), (pl d 1, recvK true d), (pl d 2, recvK false d), (pl d 2, recvK true d), (pl d 3, recvK false d), (pl d 3, recvK true d)]
theorem pays_injective (d : Dev nD) : Function.Injective (pays d) := by revert d; decide

abbrev tokOf (x : Dev nD × Fin 15) : GSem nD τ sig × ℕ × Dev nD := (kcell (pays x.1 x.2), 0, x.1)
theorem tokOf_injective : Function.Injective tokOf := by
  rintro ⟨d, t⟩ ⟨d', t'⟩ h
  have h1 : d = d' := congrArg (fun x : GSem nD τ sig × ℕ × Dev nD => x.2.2) h
  subst h1
  exact congrArg (Prod.mk d) (pays_injective d (kcell_injective (congrArg Prod.fst h)))

/-- The exchange's cells and its duty tokens. -/
def xCells : Finset (GSem nD τ sig) := Finset.univ.map ⟨kcell, kcell_injective⟩
def xToks : Finset (GSem nD τ sig × ℕ × Dev nD) := Finset.univ.map ⟨tokOf, tokOf_injective⟩

/-- The ghost state at the start: the pipeline's and the exchange's. -/
def u₀ : UU := (initOf (Pipeline.cells cfgs cellOf_inj) (Pipeline.launchToks cfgs cellOf_inj), initOf xCells xToks)

theorem fin15_nodup : [(0 : Fin 15), 1, 2, 3, 4, 5, 6, 7, 8, 9, 10, 11, 12, 13, 14].Nodup := by decide
theorem fin15_all : (Finset.univ : Finset (Fin 15)) = [(0 : Fin 15), 1, 2, 3, 4, 5, 6, 7, 8, 9, 10, 11, 12, 13, 14].toFinset := by decide

theorem bigSep_fin15 (Φ : Fin 15 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) := by
  rw [bigSep_univ_eq_bigSepL _ fin15_all fin15_nodup]
  rfl

theorem toks_intro (c : Dev nD) : (bigSep Finset.univ fun t : Fin 15 => (dutyTok ER (kcell (pays c t)) 0 c : sProp 𝕄)) ⊢ toks c := by
  rw [bigSep_fin15]
  unfold toks
  iintro ⟨H0, H1, H2, H3, H4, H5, H6, H7, H8, H9, H10, H11, H12, H13, H14⟩
  isplitl [H0 H1 H2]
  · isplitl [H0]; · iexact H0
    isplitl [H1]; · iexact H1
    iexact H2
  isplitl [H3 H4 H5 H6 H7 H8]
  · isplitl [H3]; · iexact H3
    isplitl [H4]; · iexact H4
    isplitl [H5]; · iexact H5
    isplitl [H6]; · iexact H6
    isplitl [H7]; · iexact H7
    iexact H8
  isplitl [H9]; · iexact H9
  isplitl [H10]; · iexact H10
  isplitl [H11]; · iexact H11
  isplitl [H12]; · iexact H12
  isplitl [H13]; · iexact H13
  iexact H14

/-- What the launch deals device `c`: its cells' states, its positions there, and what it pays with. -/
def G (c : Dev nD) : sProp 𝕄 :=
  iprop((bigSep Finset.univ fun k : Fin 15 => roundState ER (xRd m ρ) (kcell (c, k)) 0)
    ∗ (bigSep Finset.univ fun k : Fin 15 => iprop(atPos ER (kcell (c, k)) 0 ∅ 0 ∗ reached ER (kcell (c, k)) 0)) ∗ toks c)
/-- What it makes of it once every cell's invariant stands. -/
def G' (c : Dev nD) : sProp 𝕄 := iprop(∃ K, ghost m ρ K c)

theorem fund_exchange : BI.own (ER (initOf xCells xToks)) ⊢ (|==> bigSep Finset.univ (G m ρ) : sProp 𝕄) := by
  have hX (Φ : GSem nD τ sig → sProp 𝕄) : bigSep xCells Φ = bigSep Finset.univ fun c : Dev nD => bigSep Finset.univ fun k : Fin 15 => Φ (kcell (c, k)) := by
    unfold xCells; rw [bigSep_map, bigSep_univ_prod]; rfl
  have hT : bigSep xToks (fun x => (dutyTok ER x.1 x.2.1 x.2.2 : sProp 𝕄)) ⊢ bigSep Finset.univ fun c : Dev nD => toks c := by
    unfold xToks; rw [bigSep_map, bigSep_univ_prod]
    exact bigSep_mono fun c _ => toks_intro c
  iintro HX
  imod (Rounds.fund ER (xRd m ρ) xCells xToks) $$ HX with ⟨Hst, Hr, Hat, Htok⟩
  imodintro
  ihave Hst' := (Entails.of_eq (hX fun g => roundState ER (xRd m ρ) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

/-! ## The semaphores, at the start and at the end -/

/-- The barrier is outside the kernel's scope, the fourteen DMA semaphores are its own. -/
theorem sems0_eq (c : Dev nD) :
    (bigSep Finset.univ fun k : Fin 15 => semVal (kcell (c, k)) 0 : sProp 𝕄)
      = iprop(unscopedSems0 c ∗ Pipeline.ownSems0 (Ix := Unit) (Name := ℕ) (U := UU) (Lvl := ℕ) (Val := Elt F) (τ := τ) osem c) := by
  rw [Pipeline.ownSems0_eq_of_list c osem [0, 1, 2, 3, 4, 5, 6, 7, 8, 9, 10, 11, 12, 13] (by decide) (by decide)]
  unfold unscopedSems0
  rw [bigSep_eq_bigSepL_of_eq [SemLoc.reg barS] (by decide) (by decide), bigSep_univ_eq_bigSepL _ fin15_all fin15_nodup]
  rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (xRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : Fin 15 => semVal (kcell (c, k)) 0) ∗ bigSep Finset.univ fun k : Fin 15 => roundState ER (xRd m ρ) (kcell (c, k)) 0)
      ⊢ (|={Set.univ}=> bigSep Finset.univ fun k => iprop(∃ κ : ℕ, cellInv ER (xRd m ρ) κ (kcell (c, k))) : sProp 𝕄) from by
        rw [← bigSep_sep']
        exact (bigSep_mono fun k _ => (Rounds.body_intro ER (xRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- A device keeps its positions and its tokens; -/
def linear (c : Dev nD) : sProp 𝕄 := iprop((bigSep Finset.univ fun k : Fin 15 => atPos ER (kcell (c, k)) 0 ∅ 0) ∗ toks c)

theorem ghost_intro (K : Dev nD × Fin 15 → ℕ) (c : Dev nD) : iprop(records m ρ K ∗ linear c) ⊢ G' m ρ c := by
  unfold linear G' ghost
  iintro ⟨#HR, Hat, Htok⟩
  iexists K
  isplitr; · iexact HR
  isplitl [Hat] <;> iassumption

theorem with_records {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- the invariants are everybody's. -/
theorem regroup :
    (bigSep Finset.univ fun c : Dev nD => iprop((bigSep Finset.univ fun k => iprop(∃ κ : ℕ, cellInv ER (xRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 15 => iprop(∃ κ : ℕ, cellInv ER (xRd m ρ) κ (kcell ck))),
    bigSep_congr (s := Finset.univ) (fun (c : Dev nD) _ => bigSep_sep' Finset.univ (fun k : Fin 15 => (atPos ER (kcell (c, k)) 0 ∅ 0 : sProp 𝕄)) (fun k => reached ER (kcell (c, k)) 0)),
    bigSep_sep', ← bigSep_univ_prod (fun ck : Dev nD × Fin 15 => (reached ER (kcell ck) 0 : sProp 𝕄))]
  iintro ⟨HI, ⟨Hat, #HR⟩, Htok⟩
  ihave HK := (BI.bigSep_exists_pi Finset.univ (fun (ck : Dev nD × Fin 15) (κ : ℕ) => (cellInv ER (xRd m ρ) κ (kcell ck) : sProp 𝕄))) $$ HI
  icases HK with ⟨%K, #HI⟩
  iapply (with_records (R := records m ρ K) fun c _ => ghost_intro m ρ K c)
  isplitr
  · unfold records; isplitl; · iexact HI
    iexact HR
  · iapply (Entails.of_eq (bigSep_sep' Finset.univ (fun c : Dev nD => bigSep Finset.univ fun k : Fin 15 => (atPos ER (kcell (c, k)) 0 ∅ 0 : sProp 𝕄)) (fun c => toks c)).symm)
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit at the start -/

theorem tl_at (x y : Dev nD × Fin 15) (n : ℕ) : tl x n (kcell y) () = if y = x then n else 0 := by
  rw [tallyAt_apply]
  refine if_congr ?_ rfl rfl
  rw [kcell_eq_iff]
  exact and_iff_left rfl

/-- What device `d` owes on the cell `y`, for a block's credit of `p` and of `q`. -/
def owedAt (p q : ℕ) (d : Dev nD) (y : Dev nD × Fin 15) : ℕ :=
  0 + (if y = (pl d 3, recvK true d) then q else 0) + (if y = (pl d 3, recvK false d) then p else 0) + (if y = (pl d 2, recvK true d) then q else 0)
    + (if y = (pl d 2, recvK false d) then p else 0) + (if y = (pl d 1, recvK true d) then q else 0) + (if y = (pl d 1, recvK false d) then p else 0)
    + (if y = (pl d 3, 0) then 1 else 0) + (if y = (pl d 2, 0) then 1 else 0) + (if y = (pl d 1, 0) then 1 else 0)

theorem owed_at (d : Dev nD) (y : Dev nD × Fin 15) : O₀ d (kcell y) () = owedAt (NW false) (NW true) d y := by
  unfold O₀ O₁ O₂ owed0 owed1 owed2 owed3 owed4 owed5 owed6 owedAt
  simp only [Pi.add_apply, Finsupp.add_apply, tl_at]
  rfl

/-- Three signals are owed to a device's barrier, -/
theorem sum_bar (p q : ℕ) (c : Dev nD) : ∑ d : Dev nD, owedAt p q d (c, 0) = 3 := by
  rw [show (∑ d : Dev nD, owedAt p q d (c, 0)) = ∑ d : Fin 4, owedAt p q d (c, 0) from rfl, Fin.sum_univ_four]
  unfold owedAt
  fin_cases c <;> simp (decide := true)
/-- and one block of each matrix from each other device. -/
theorem sum_recv (p q : ℕ) (a : Bool) (c : Dev nD) (k : Fin 4) (hk : k ≠ 0) : ∑ d : Dev nD, owedAt p q d (c, recvK a (pl c k)) = if a then q else p := by
  rw [show (∑ d : Dev nD, owedAt p q d (c, recvK a (pl c k))) = ∑ d : Fin 4, owedAt p q d (c, recvK a (pl c k)) from rfl, Fin.sum_univ_four]
  unfold owedAt
  fin_cases k
  · exact absurd rfl hk
  all_goals cases a <;> fin_cases c <;> simp (decide := true)

theorem credit_eq (c : Dev nD) (k : Fin 15) (n : ℕ) (h : ∑ d : Dev nD, owedAt (NW false) (NW true) d (c, k) = n) :
    (tallyOn ((c : Thread nD τ), csem k) (launchCredit (Pipeline.owing O₀) 0 ((c : Thread nD τ), csem k)) : CellTallies nD τ sig Unit) = tallyAt (kcell (c, k)) () n := by
  unfold tallyAt; refine congrArg _ (Finsupp.ext fun u => ?_); cases u
  rw [Pipeline.launchCredit_owing, Finsupp.single_eq_same]
  exact (Finset.sum_congr rfl fun d _ => owed_at d (c, k)).trans h

theorem waited_nodup (c : Dev nD) : [csem 0, csem (recvK false (pl c 1)), csem (recvK true (pl c 1)), csem (recvK false (pl c 3)), csem (recvK true (pl c 3)),
    csem (recvK false (pl c 2)), csem (recvK true (pl c 2))].Nodup := by revert c; decide

theorem creds_intro (c : Dev nD) : (Pipeline.launchCred O₀ c : sProp 𝕄) ⊢ creds c := by
  unfold Pipeline.launchCred
  refine (bigSep_subset (Finset.subset_univ [csem 0, csem (recvK false (pl c 1)), csem (recvK true (pl c 1)), csem (recvK false (pl c 3)), csem (recvK true (pl c 3)),
    csem (recvK false (pl c 2)), csem (recvK true (pl c 2))].toFinset)).trans ?_
  rw [bigSep_eq_bigSepL_of_eq _ rfl (waited_nodup c)]
  simp only [bigSepL_cons_cons, bigSepL_singleton]
  rw [credit_eq c 0 3 (sum_bar _ _ c)]
  rw [credit_eq c (recvK false (pl c 1)) (NW false) (sum_recv _ _ false c 1 (by decide)), credit_eq c (recvK true (pl c 1)) (NW true) (sum_recv _ _ true c 1 (by decide)),
    credit_eq c (recvK false (pl c 3)) (NW false) (sum_recv _ _ false c 3 (by decide)), credit_eq c (recvK true (pl c 3)) (NW true) (sum_recv _ _ true c 3 (by decide)),
    credit_eq c (recvK false (pl c 2)) (NW false) (sum_recv _ _ false c 2 (by decide)), credit_eq c (recvK true (pl c 2)) (NW true) (sum_recv _ _ true c 2 (by decide))]
  exact Entails.refl _

end Cert.Run

end
-- ==== Proof.Body.lean ====
/-
# The kernel's body in its pipeline

The pipeline fetches every array whole before the body and writes the result back after it; the body's run fits.
-/
module

public import proofs.«01_k».proof.Proof.Finish
public import proofs.«01_k».proof.Proof.Ghost

@[expose] public section

noncomputable section

namespace Cert.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The pipeline's data -/

/-- What device `c`'s body starts from, the scratch aside. -/
def start (c : Dev nD) : sProp 𝕄 := iprop((∃ K, ghost m ρ K c) ∗ creds c ∗ levAts L lv)
def Φ₀ (c : Dev nD) : sProp 𝕄 := iprop(start m ρ c ∗ scr c)
/-- What it leaves: every semaphore at zero, and the scratch. -/
def Φ₁ (c : Dev nD) : sProp 𝕄 := iprop((bigSep Finset.univ fun k : Fin 15 => semVal (kcell (c, k)) 0) ∗ scr c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xStg m ρ c
    | ⟨1, _⟩ => wqStg m ρ c
    | ⟨2, _⟩ => kStg m ρ c
    | ⟨3, _⟩ => vStg m ρ c
    | ⟨4, _⟩ => woStg m ρ c
    | ⟨5, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 6) ∗ Φ (1 : Fin 6) ∗ Φ (2 : Fin 6) ∗ Φ (3 : Fin 6) ∗ Φ (4 : Fin 6) ∗ Φ (5 : Fin 6)) :=
  bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body's obligation -/

/-- The staging buffer `b` holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t0_0.castSucc
    ∗ (∃ d, stg c cc0_stg0_0 ((dats m ρ 0 c).before (0 : Fin 6) t0_0 d)) ∗ (∃ d, stg c cc0_stg1_0 ((dats m ρ 0 c).before (1 : Fin 6) t0_0 d))
    ∗ (∃ d, stg c cc0_stg2_0 ((dats m ρ 0 c).before (2 : Fin 6) t0_0 d)) ∗ (∃ d, stg c cc0_stg3_0 ((dats m ρ 0 c).before (3 : Fin 6) t0_0 d))
    ∗ (∃ d, stg c cc0_stg4_0 ((dats m ρ 0 c).before (4 : Fin 6) t0_0 d)) ∗ (∃ d, stg c cc0_stg5_0 ((dats m ρ 0 c).before (5 : Fin 6) t0_0 d)))

def bodyPost (c : Dev nD) : sProp 𝕄 :=
  iprop(Φ₁ c ∗ (dats m ρ 0 c).owesAt () t0_0.succ ∗ stg c cc0_stg0_0 (xStg m ρ c) ∗ stg c cc0_stg1_0 (wqStg m ρ c) ∗ stg c cc0_stg2_0 (kStg m ρ c)
    ∗ stg c cc0_stg3_0 (vStg m ρ c) ∗ stg c cc0_stg4_0 (woStg m ρ c) ∗ stg c cc0_stg5_0 (outAt m ρ c))

theorem before_x (c : Dev nD) (d) : (dats m ρ 0 c).before (0 : Fin 6) t0_0 d = xStg m ρ c := by unfold Dat.before; rw [if_pos (fetch0_0 t0_0)]; rfl
theorem before_wq (c : Dev nD) (d) : (dats m ρ 0 c).before (1 : Fin 6) t0_0 d = wqStg m ρ c := by unfold Dat.before; rw [if_pos (fetch0_1 t0_0)]; rfl
theorem before_k (c : Dev nD) (d) : (dats m ρ 0 c).before (2 : Fin 6) t0_0 d = kStg m ρ c := by unfold Dat.before; rw [if_pos (fetch0_2 t0_0)]; rfl
theorem before_v (c : Dev nD) (d) : (dats m ρ 0 c).before (3 : Fin 6) t0_0 d = vStg m ρ c := by unfold Dat.before; rw [if_pos (fetch0_3 t0_0)]; rfl
theorem before_wo (c : Dev nD) (d) : (dats m ρ 0 c).before (4 : Fin 6) t0_0 d = woStg m ρ c := by unfold Dat.before; rw [if_pos (fetch0_4 t0_0)]; rfl

/-- What the run leaves is what the pipeline asks for. -/
theorem post_intro (c : Dev nD) : runPost m ρ c (outAt m ρ c) ⊢ bodyPost m ρ c := by
  unfold runPost bodyPost Φ₁ ins Dat.owesAt Pipeline.owesWithin
  rw [show (dats m ρ 0 c).owed t0_0.succ = 0 from rfl]
  iintro ⟨Hz, Hscr, ⟨%W, HO⟩, ⟨H0, H1, H2, H3, H4⟩, H5⟩
  isplitl [Hz Hscr]
  · isplitl [Hz] <;> iassumption
  isplitl [HO]
  · iexists W
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H4]
  · iexists _; isplitr; · (ipureintro; rfl)
    iexact H4
  iexists _; isplitr; · (ipureintro; rfl)
  iexact H5

theorem sound_body (c : Dev nD) :
    bodyPre m ρ c ⊢ wp frame (wpE (defs₀ (F := F)) 𝒱₀ (c : Thread nD τ) none) Set.univ body (fun _ => bodyPost m ρ c) := by
  unfold bodyPre Φ₀ start Dat.owesAt Pipeline.owesWithin
  rw [show (dats m ρ 0 c).owed t0_0.castSucc = O₀ c from rfl]
  iintro ⟨⟨⟨⟨%K, Hg⟩, Hcr, Hlev⟩, Hscr⟩, ⟨%W, -, HO⟩, ⟨%d0, %g0, %h0, H0⟩, ⟨%d1, %g1, %h1, H1⟩, ⟨%d2, %g2, %h2, H2⟩, ⟨%d3, %g3, %h3, H3⟩, ⟨%d4, %g4, %h4, H4⟩, ⟨%d5, %g5, -, H5⟩⟩
  obtain rfl : g0 = xStg m ρ c := h0.trans (before_x m ρ c d0)
  obtain rfl : g1 = wqStg m ρ c := h1.trans (before_wq m ρ c d1)
  obtain rfl : g2 = kStg m ρ c := h2.trans (before_k m ρ c d2)
  obtain rfl : g3 = vStg m ρ c := h3.trans (before_v m ρ c d3)
  obtain rfl : g4 = woStg m ρ c := h4.trans (before_wo m ρ c d4)
  iapply (show runPre m ρ K c W g5 ⊢ iprop((runPost m ρ c (outAt m ρ c) -∗ bodyPost m ρ c) -∗ wp frame (wpE (defs₀ (F := F)) 𝒱₀ (c : Thread nD τ) none) Set.univ body (fun _ => bodyPost m ρ c))
    from runs m ρ c K W g5 fun _ => bodyPost m ρ c) $$ [Hg Hcr Hlev Hscr HO H0 H1 H2 H3 H4 H5]
  · unfold runPre ins
    isplitl [Hg]; · iexact Hg
    isplitl [Hcr]; · iexact Hcr
    isplitl [Hlev]; · iexact Hlev
    isplitl [Hscr]; · iexact Hscr
    isplitl [HO]; · iexact HO
    isplitl [H0 H1 H2 H3 H4]
    · isplitl [H0]; · iexact H0
      isplitl [H1]; · iexact H1
      isplitl [H2]; · iexact H2
      isplitl [H3]; · iexact H3
      iexact H4
    iexact H5
  iintro H
  iapply (post_intro m ρ c)
  iexact H

set_option maxRecDepth 4000 in
theorem body_obligation (c : Dev nD) : BodyObligation (dats (F := F) m ρ 0 c) (defs₀ (F := F)) 𝒱₀ () Set.univ := fun t => by
  rw [fin_N0 t]
  rw [bigSep_W, bigSep_W]
  simp only [owns_whole_eq]
  exact sound_body m ρ c

end Cert.Run

end
-- ==== Proof.Launch.lean ====
/-
# The run of the four devices
-/
module

public import proofs.«01_k».proof.Proof.Body
public import Idealize.ShloMosaic.Lib.Pipeline.CollectiveSegs

@[expose] public section

noncomputable section

namespace Cert.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scr
  rw [sems0_eq]
  iintro ⟨⟨Hu, Ho⟩, Hr⟩
  isplitl [Hu]; · iexact Hu
  isplitl [Ho]; · iexact Ho
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What the run leaves in each array. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with every semaphore at zero, every weakly fair execution of the four devices ends, with every
    array as computed and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_exchange m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## What the arrays hold at the end -/

theorem final_x (c : Dev nD) : finalA m ρ c (0 : Fin 6) = m ((c : Thread nD τ).loc main_arg0) := (dats (F := F) m ρ 0 c).arrAt_in (0 : Fin 6) rfl _
theorem final_wq (c : Dev nD) : finalA m ρ c (1 : Fin 6) = m ((c : Thread nD τ).loc main_arg1) := (dats (F := F) m ρ 0 c).arrAt_in (1 : Fin 6) rfl _
theorem final_k (c : Dev nD) : finalA m ρ c (2 : Fin 6) = m ((c : Thread nD τ).loc main_arg2) := (dats (F := F) m ρ 0 c).arrAt_in (2 : Fin 6) rfl _
theorem final_v (c : Dev nD) : finalA m ρ c (3 : Fin 6) = m ((c : Thread nD τ).loc main_arg3) := (dats (F := F) m ρ 0 c).arrAt_in (3 : Fin 6) rfl _
theorem final_wo (c : Dev nD) : finalA m ρ c (4 : Fin 6) = m ((c : Thread nD τ).loc main_arg4) := (dats (F := F) m ρ 0 c).arrAt_in (4 : Fin 6) rfl _

end Cert.Run

end
-- ==== Proof.Frames.lean ====
/-
# The frames, and the named constant

The kernel as printed and the kernel with its mask constant named are one text but for that constant, which is the
printed one over machine floats: one run serves both.
-/
module

public import proofs.«01_k».proof.Defs
public import proofs.«01_k».proof.Proof.Gen.Kernel
public import proofs.«01_k».proof.Proof.Gen.ReferenceIdeal.Run
public import proofs.«01_k».proof.Proof.Launch

@[expose] public section

noncomputable section

namespace Cert.Run

open Cert.KernelIdeal
open Idealize.ShloMosaic Idealize.SL.Sem
open Idealize.ShloMosaic.TcCoe

/-- After the launch every argument is as it was, and every semaphore is at rest. -/
theorem unchanged {F : FTy → Type} [FloatOps F] [Named F] (m : (ℓ : Loc nD τ sig) → Buf (Elt F) ℓ) (ρ : Dev nD → PrngReg) :
    θ_run Cert.KernelIdeal.defs (onTc (τ := Cert.KernelIdeal.τ) (Cert.KernelIdeal.main (F := F))) ⟨m, fun _ => 0, ρ⟩ (fun r =>
      (∀ c : Dev nD, r.2.mem (c.tc.loc main_arg0) = m (c.tc.loc main_arg0) ∧ r.2.mem (c.tc.loc main_arg1) = m (c.tc.loc main_arg1) ∧
        r.2.mem (c.tc.loc main_arg2) = m (c.tc.loc main_arg2) ∧ r.2.mem (c.tc.loc main_arg3) = m (c.tc.loc main_arg3) ∧
        r.2.mem (c.tc.loc main_arg4) = m (c.tc.loc main_arg4)) ∧ r.2.sem = fun _ => 0) :=
  (θ_run Cert.KernelIdeal.defs _ _).mono
    (fun _ h => ⟨fun c => ⟨(h.1 c (0 : Fin 6)).trans (final_x m ρ c), (h.1 c (1 : Fin 6)).trans (final_wq m ρ c), (h.1 c (2 : Fin 6)).trans (final_k m ρ c),
      (h.1 c (3 : Fin 6)).trans (final_v m ρ c), (h.1 c (4 : Fin 6)).trans (final_wo m ρ c)⟩, h.2⟩)
    (run_main m ρ)

theorem frame_ideal : Cert.quiescent_KernelIdeal (hKernelIdeal := Cert.KernelIdeal.Gen.facts) := fun m ρ _ => unchanged (F := Ideal) m ρ

theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems rfl r.2⟩)
    (Cert.ReferenceIdeal.Value.run (F := Ideal) m ρ)

/-- Over machine floats a named constant is its printed word. -/
instance printed : Named Bits where
  named _ _ {φ} bits := FloatOps.ofBits φ bits

theorem bodies_same : Cert.Kernel.defs₀ (F := Bits) = Cert.KernelIdeal.defs₀ (F := Bits) := by
  refine congrArg Defs.onTc (funext fun l => funext fun a => ?_)
  match l, a with
  | 0, (t, s) => rfl

theorem defs_same : Cert.Kernel.defs (F := Bits) = Cert.KernelIdeal.defs (F := Bits) :=
  congrArg (Pipeline.defs (Cert.KernelIdeal.pcfgs (F := Bits))) bodies_same

theorem frame_kernel : Cert.quiescent_Kernel (hKernel := Cert.Kernel.Gen.facts) := fun m ρ _ => by
  have h := unchanged (F := Bits) m ρ
  rw [← defs_same] at h
  exact h

theorem named_mask : Cert.preserves_Kernel_KernelIdeal := IdealRules.named_const.statement Cert.KernelIdeal.κ "mask" .f32 0xCE6E6B28#32 ⊥ rfl

end Cert.Run

end
-- ==== Proof.Softmax.lean ====
/-
# A weighted mean, with and without the maximum subtracted

Weights `exp t k` over their sum do not change when a real number is subtracted from every `t k`: here over the extended
reals, where a `t k` may be `⊥` (its weight is zero) and the values weighed may be anything.
-/
module

public import Idealize.ShloMosaic.PureOps.Ideal

@[expose] public section

noncomputable section

namespace Cert.Run

open Idealize.ShloMosaic
open scoped BigOperators

variable {ι : Type} [Fintype ι]

/-- A nonnegative real factor goes into a sum. -/
theorem sum_mul_real (f : ι → EReal) (r : ℝ) (hr : 0 ≤ r) : (∑ k, f k) * (r : EReal) = ∑ k, f k * (r : EReal) := by
  classical
  refine Finset.induction_on (Finset.univ : Finset ι) (by simp) ?_
  intro a s ha ih
  rw [Finset.sum_insert ha, Finset.sum_insert ha, ← ih]
  exact EReal.right_distrib_of_nonneg_of_ne_top (by exact_mod_cast hr) (EReal.coe_ne_top r) _ _

/-- A sum of real numbers is their sum among the extended reals. -/
theorem coe_sum (f : ι → ℝ) : ((∑ k, f k : ℝ) : EReal) = ∑ k, (f k : EReal) := by
  classical
  refine Finset.induction_on (Finset.univ : Finset ι) (by simp) ?_
  intro a s ha ih
  rw [Finset.sum_insert ha, Finset.sum_insert ha, EReal.coe_add, ih]

/-- The exponential as a real number, zero at `⊥`. -/
def weight (t : EReal) : ℝ := if t = ⊥ then 0 else Real.exp t.toReal

theorem exp_eq_weight {t : EReal} (ht : t ≠ ⊤) : Ideal.exp t = (weight t : EReal) := by
  induction t with
  | bot => simp [weight]
  | top => exact absurd rfl ht
  | coe r => simp [weight]

theorem weight_nonneg (t : EReal) : 0 ≤ weight t := by
  unfold weight; split
  · exact le_rfl
  · exact (Real.exp_pos _).le

theorem weight_pos {t : EReal} (h : t ≠ ⊥) : 0 < weight t := by
  unfold weight; rw [if_neg h]; exact Real.exp_pos _

theorem exp_sub {t : EReal} (ht : t ≠ ⊤) (μ : ℝ) : Ideal.exp (t - (μ : EReal)) = ((weight t * Real.exp (-μ) : ℝ) : EReal) := by
  induction t with
  | bot => simp [weight]
  | top => exact absurd rfl ht
  | coe r =>
    rw [← EReal.coe_sub, Ideal.exp_coe]
    simp [weight, sub_eq_add_neg, Real.exp_add]

/-- The mean by the bare exponentials is the mean by the exponentials of the differences. -/
theorem mean_shift (t v : ι → EReal) (ht : ∀ k, t k ≠ ⊤) (k₀ : ι) (hk₀ : t k₀ ≠ ⊥) (M : EReal) (h₁ : M ≠ ⊤) (h₂ : M ≠ ⊥) :
    Ideal.div (∑ k, Ideal.exp (t k) * v k) (∑ k, Ideal.exp (t k) * 1)
      = ∑ k, Ideal.div (Ideal.exp (t k - M)) (∑ j, Ideal.exp (t j - M)) * v k := by
  lift M to ℝ using ⟨h₁, h₂⟩
  have hs : 0 < ∑ k, weight (t k) :=
    Finset.sum_pos' (fun k _ => weight_nonneg _) ⟨k₀, Finset.mem_univ _, weight_pos hk₀⟩
  have hc : 0 < Real.exp (-M) := Real.exp_pos _
  have e₁ : (∑ k, Ideal.exp (t k) * 1) = ((∑ k, weight (t k) : ℝ) : EReal) := by
    rw [coe_sum]
    exact Finset.sum_congr rfl fun k _ => by rw [mul_one, exp_eq_weight (ht k)]
  have e₂ : (∑ k, Ideal.exp (t k - (M : EReal))) = (((∑ k, weight (t k)) * Real.exp (-M) : ℝ) : EReal) := by
    rw [Finset.sum_mul, coe_sum]
    exact Finset.sum_congr rfl fun k _ => exp_sub (ht k) M
  rw [e₁, e₂, Ideal.div_coe hs.ne', sum_mul_real _ _ (by positivity)]
  refine Finset.sum_congr rfl fun k _ => ?_
  rw [Ideal.div_coe (mul_pos hs hc).ne', exp_sub (ht k) M, exp_eq_weight (ht k), ← EReal.coe_mul, mul_right_comm, ← EReal.coe_mul]
  congr 2
  field_simp

end Cert.Run

end
-- ==== Proof.Meaning.lean ====
/-
# What is computed

Masked attention with its projections, over the extended reals: the kernel's blocks and the reference's array are both read
as this.

Rows and columns are numbered in blocks of 64. A row of block `a` sees a column of block `b` if the blocks are the same, if
`b` is the first, or if `a + b` is a multiple of three.
-/
module

public import proofs.«01_k».proof.Proof.Softmax
public import Idealize.ShloMosaic.Lib.Pointwise

@[expose] public section

noncomputable section

namespace Cert.Run

open Idealize.ShloMosaic
open scoped BigOperators

/-- Block `a` of rows sees block `b` of columns. -/
def sees (a b : ℕ) : Prop := (a = b ∨ b = 0) ∨ (a + b) % 3 = 0

instance (a b : ℕ) : Decidable (sees a b) := by unfold sees; infer_instance

/-- The scale of the scores. -/
def scale : EReal := Ideal.ofBits .f32 0x3E000000#32

theorem scale_eq : scale = ((1 / 8 : ℝ) : EReal) := by
  unfold scale
  simp [Ideal.ofBits, Ideal.ieee, -EReal.coe_mul]; norm_num

/-- The mean of `v` by the exponentials of `t`. -/
def mean (t v : Fin 512 → EReal) : EReal := Ideal.div (∑ j, Ideal.exp (t j) * v j) (∑ j, Ideal.exp (t j) * 1)

/-- Column `64 h + d` of all the heads' columns. -/
def wide (h : Fin 32) (d : Fin 64) : Fin 2048 := ⟨64 * h.val + d.val, by omega⟩

variable (x : (⟨3, ![2, 2048, 768]⟩ : Shape).Idx → EReal) (wq : (⟨2, ![768, 2048]⟩ : Shape).Idx → EReal)
  (k v : (⟨4, ![2, 512, 32, 64]⟩ : Shape).Idx → EReal) (wo : (⟨2, ![2048, 768]⟩ : Shape).Idx → EReal)

/-- The score of row `i` and column `j` in head `h`. -/
def score (b : Fin 2) (i : Fin 2048) (h : Fin 32) (j : Fin 512) : EReal :=
  (∑ e : Fin 64, (∑ c : Fin 768, x (ix3 b i c) * wq (ix2 c (wide h e))) * k (ix4 b j h e)) * scale

/-- The same, `⊥` where the row does not see the column. -/
def masked (b : Fin 2) (i : Fin 2048) (h : Fin 32) (j : Fin 512) : EReal :=
  if sees (i.val / 64) (j.val / 64) then score x wq k b i h j else ⊥

/-- Coordinate `d` of head `h`. -/
def head (b : Fin 2) (i : Fin 2048) (h : Fin 32) (d : Fin 64) : EReal :=
  mean (masked x wq k b i h) (fun j => v (ix4 b j h d))

/-- The result: the heads side by side times the output's weights. -/
def attention (b : Fin 2) (i : Fin 2048) (n : Fin 768) : EReal :=
  ∑ c : Fin 2048, head x wq k v b i ⟨c.val / 64, by omega⟩ ⟨c.val % 64, by omega⟩ * wo (ix2 c n)

/-- A real number. -/
def IsReal (t : EReal) : Prop := t ≠ ⊤ ∧ t ≠ ⊥

theorem IsReal.mul {a b : EReal} (ha : IsReal a) (hb : IsReal b) : IsReal (a * b) := by
  lift a to ℝ using ha; lift b to ℝ using hb
  rw [← EReal.coe_mul]; exact ⟨EReal.coe_ne_top _, EReal.coe_ne_bot _⟩

theorem IsReal.sum {ι : Type} [Fintype ι] {f : ι → EReal} (h : ∀ k, IsReal (f k)) : IsReal (∑ k, f k) := by
  have e : (∑ k, f k) = ((∑ k, (f k).toReal : ℝ) : EReal) := by
    rw [coe_sum]
    exact Finset.sum_congr rfl fun k _ => (EReal.coe_toReal (h k).1 (h k).2).symm
  rw [e]; exact ⟨EReal.coe_ne_top _, EReal.coe_ne_bot _⟩

variable {x wq k}

/-- The scores are real numbers where the queries' factors and the keys are. -/
theorem score_real (hx : ∀ i, IsReal (x i)) (hw : ∀ i, IsReal (wq i)) (hk : ∀ i, IsReal (k i)) (b : Fin 2) (i : Fin 2048) (h : Fin 32) (j : Fin 512) :
    IsReal (score x wq k b i h j) := by
  unfold score
  refine IsReal.mul (IsReal.sum fun _ => IsReal.mul (IsReal.sum fun _ => IsReal.mul (hx _) (hw _)) (hk _)) ?_
  rw [scale_eq]; exact ⟨EReal.coe_ne_top _, EReal.coe_ne_bot _⟩

theorem sees_first (a : ℕ) : sees a 0 := Or.inl (Or.inr rfl)

/-- The head as the reference has it: weights by the differences from the row's largest score. -/
theorem head_eq (hx : ∀ i, IsReal (x i)) (hw : ∀ i, IsReal (wq i)) (hk : ∀ i, IsReal (k i)) (b : Fin 2) (i : Fin 2048) (h : Fin 32) (d : Fin 64) :
    head x wq k v b i h d
      = ∑ j, Ideal.div (Ideal.exp (masked x wq k b i h j - Finset.fold max ⊥ (masked x wq k b i h) Finset.univ))
          (∑ j', Ideal.exp (masked x wq k b i h j' - Finset.fold max ⊥ (masked x wq k b i h) Finset.univ)) * v (ix4 b j h d) := by
  have ht : ∀ j, masked x wq k b i h j ≠ ⊤ := fun j => by
    unfold masked; split
    · exact (score_real hx hw hk b i h j).1
    · exact bot_ne_top
  have h0 : masked x wq k b i h 0 ≠ ⊥ := by
    unfold masked; rw [if_pos (show sees (i.val / 64) ((0 : Fin 512).val / 64) from sees_first _)]
    exact (score_real hx hw hk b i h 0).2
  refine mean_shift _ _ ht 0 h0 _ ?_ ?_
  · exact ne_of_lt ((Finset.fold_max_lt _).mpr ⟨bot_lt_top, fun j _ => lt_top_iff_ne_top.mpr (ht j)⟩)
  · refine ne_of_gt (lt_of_lt_of_le (bot_lt_iff_ne_bot.mpr h0) ?_)
    exact (Finset.le_fold_max _).mpr (Or.inr ⟨0, Finset.mem_univ _, le_rfl⟩)

end Cert.Run

end
-- ==== Proof.Head.lean ====
/-
# One round, entry by entry

Over the extended reals the kernel's round is read at an index: a head is the mean of the values by the exponentials of the
masked scores, and a round adds one block of heads times its rows of the output's weights.
-/
module

public import proofs.«01_k».proof.Proof.Attention
public import proofs.«01_k».proof.Proof.Meaning

@[expose] public section

set_option maxRecDepth 16384

noncomputable section

namespace Cert.Run

open Cert.KernelIdeal Cert.KernelIdeal.Gen
open Idealize.ShloMosaic
open Idealize.ShloMosaic.TcCoe

/-- Column `64 h + d`. -/
def col (h : Fin 8) (d : Fin 64) : Fin 512 := ⟨64 * h.val + d.val, by omega⟩

theorem headOut_apply (h : Fin 8) (hs : S512x512.Slices ![0, 64 * h.val] S512x64) (bias : FVec Ideal S512x512 .f32) (q k v : FVec Ideal S512x512 .bf16)
    (i : Fin 512) (d : Fin 64) : headOut ![0, 64 * h.val] hs bias q k v (ix2 i d)
      = mean (fun j => (∑ e : Fin 64, q (ix2 i (col h e)) * k (ix2 j (col h e))) * scale + bias (ix2 i j)) (fun j => v (ix2 j (col h d))) := by
  pointwise [headOut, k0_pay30]
  simp [mean, scale, col]

theorem slices_head (h : Fin 8) : S512x512.Slices ![0, 64 * h.val] S512x64 := by revert h; decide

/-- Column `64 h + d` of the block is coordinate `d` of head `h`. -/
theorem heads_eq (bias : FVec Ideal S512x512 .f32) (q k v : FVec Ideal S512x512 .bf16) (i : Fin 512) (h : Fin 8) (d : Fin 64) :
    heads bias q k v (ix2 i (col h d)) = headOut ![0, 64 * h.val] (slices_head h) bias q k v (ix2 i d) :=
  concatenate_ofFn_apply (t := S512x512) (s₁ := S512x64) (1 : Fin 2) (N := 8) (fun h => headOut ![0, 64 * h.val] (slices_head h) bias q k v)
    concatenates_S512x64_S512x64_S512x64_S512x64_S512x64_S512x64_S512x64_S512x64_S512x512_d1 rfl 64 rfl (ix2 i (col h d)) h
    (by show (64 * h.val + d.val) / 64 = _; omega) (ix2 i d) (by show d.val = (64 * h.val + d.val) % 64; omega)
    (fun b hb => by fin_cases b; · rfl
                    · exact absurd rfl hb)

theorem queries_apply (x : FVec Ideal S512x768 .bf16) (wq : FVec Ideal S768x512 .bf16) (i c : Fin 512) :
    queries x wq (ix2 i c) = ∑ k : Fin 768, x (ix2 i k) * wq (ix2 k c) := by
  pointwise [queries]

theorem round_apply (bias : FVec Ideal S512x512 .f32) (x : FVec Ideal S512x768 .bf16) (wq : FVec Ideal S768x512 .bf16) (wo : FVec Ideal S512x768 .bf16)
    (k v : FVec Ideal S512x512 .bf16) (a : FVec Ideal S1x512x768 .f32) (i : Fin 512) (n : Fin 768) :
    round bias x wq wo k v a (ix3 0 i n)
      = a (ix3 0 i n) + ∑ c : Fin 512, heads bias (queries x wq) k v (ix2 i c) * wo (ix2 c n) := by
  pointwise [round]

end Cert.Run

end
-- ==== Proof.Mask.lean ====
/-
# The kernel's mask

The kernel adds zero to a score where the row sees the column, `⊥` where it does not.
-/
module

public import proofs.«01_k».proof.Proof.Attention
public import proofs.«01_k».proof.Proof.Meaning

@[expose] public section

set_option maxRecDepth 16384

noncomputable section

namespace Cert.Run

open Cert.KernelIdeal Cert.KernelIdeal.Gen
open Idealize.ShloMosaic
open Idealize.ShloMosaic.TcCoe

theorem qb_word : ∀ (c : Fin 4) (i : Fin 512),
    IntOp.addi (Scalar.muli (Scalar.remsi (Scalar.divsi (BitVec.ofNat 32 c.val) 1#32) 4#32) 8#32) (BitVec.ofNat 32 (i.val / 64))
      = BitVec.ofNat 32 (8 * c.val + i.val / 64) := by decide +kernel

theorem floor_word : ∀ i : Fin 512,
    Scalar.select
      (IntOp.andi
        (IntOp.cmpi CmpIPredicate.ne
          (IntOp.subi (BitVec.setWidth 32 (IntOp.cmpi CmpIPredicate.sgt (BitVec.ofNat 32 i.val) 0#32))
            (BitVec.setWidth 32 (IntOp.cmpi CmpIPredicate.slt (BitVec.ofNat 32 i.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 i.val) 64#32) 0#32))
      (IntOp.subi (IntOp.divsi ArithUnit.vector (BitVec.ofNat 32 i.val) 64#32) 1#32)
      (IntOp.divsi ArithUnit.vector (BitVec.ofNat 32 i.val) 64#32) = BitVec.ofNat 32 (i.val / 64) := by decide +kernel

/-- The kernel's bit of the blocks' numbers. -/
theorem sees_word : ∀ (a : Fin 32) (b : Fin 8),
    IntOp.ori (IntOp.ori (IntOp.cmpi CmpIPredicate.eq (BitVec.ofNat 32 a.val) (BitVec.ofNat 32 b.val))
        (IntOp.cmpi CmpIPredicate.eq (BitVec.ofNat 32 b.val) 0#32))
      (IntOp.cmpi CmpIPredicate.eq (IntOp.remsi ArithUnit.vector (IntOp.addi (BitVec.ofNat 32 a.val) (BitVec.ofNat 32 b.val)) 3#32) 0#32)
      = BitVec.ofBool (decide (sees a.val b.val)) := by decide +kernel

theorem qb_apply (c : Dev nD) (i j : Fin 512) :
    k0_pay23 (iota .tc S512x512 32 [0] iota_S512x512_d0_w32) (Scalar.muli (Scalar.remsi (Scalar.divsi c.word 1#32) 4#32) 8#32) 64#32
      k0_pay21 k0_pay22 0#32 (ix2 i j) = BitVec.ofNat 32 (8 * c.val + i.val / 64) := by
  pointwise [k0_pay23, k0_pay21, k0_pay22]
  rw [floor_word]
  exact qb_word c i

theorem kb_apply (i j : Fin 512) :
    k0_pay24 (iota .tc S512x512 32 [1] iota_S512x512_d1_w32) (ix2 i j) = BitVec.ofNat 32 (j.val / 64) := by
  pointwise [k0_pay24]
  exact floor_word j

theorem bias_apply (c : Dev nD) (i j : Fin 512) :
    bias (F := Ideal) c (ix2 i j) = if sees (8 * c.val + i.val / 64) (j.val / 64) then 0 else ⊥ := by
  pointwise [bias, k0_pay27, k0_pay25, k0_pay26]
  rw [qb_apply, kb_apply]
  have h := sees_word ⟨8 * c.val + i.val / 64, by have : c.val < 4 := c.isLt; omega⟩ ⟨j.val / 64, by omega⟩
  rw [h]
  have hm : (Named.named (F := Ideal) κ "mask" (φ := .f32) 3463342888#32) = (⊥ : EReal) := by rfl
  rw [hm]
  by_cases hs : sees (8 * c.val + i.val / 64) (j.val / 64)
  · rw [if_pos hs, decide_eq_true hs]; rfl
  · rw [if_neg hs, decide_eq_false hs]; rfl

end Cert.Run

end
-- ==== Proof.Arrays.lean ====
/-
# The arrays of a device

A staged block is the whole argument, and the result's array ends with what its staging buffer ends with.
-/
module

public import proofs.«01_k».proof.Proof.Launch

@[expose] public section

noncomputable section

namespace Cert.Run

open Cert.KernelIdeal Cert.KernelIdeal.Gen
open Idealize.ShloMosaic Idealize.ShloMosaic.Pipeline
open Idealize.ShloMosaic.TcCoe

variable {F : FTy → Type} [FloatOps F] [Named F]
variable (m : (ℓ : Loc nD τ sig) → Buf (Elt F) ℓ) (ρ : Dev nD → PrngReg)

theorem xStg_eq (c : Dev nD) : xStg m ρ c = m ((c : Thread nD τ).loc main_arg0) := by
  funext y
  refine congrArg (m ((c : Thread nD τ).loc main_arg0)) (funext fun a => Fin.ext ?_)
  fin_cases a <;> (blk_simp; exact Nat.zero_add _)

theorem wqStg_eq (c : Dev nD) : wqStg m ρ c = m ((c : Thread nD τ).loc main_arg1) := by
  funext y
  refine congrArg (m ((c : Thread nD τ).loc main_arg1)) (funext fun a => Fin.ext ?_)
  fin_cases a <;> (blk_simp; exact Nat.zero_add _)

theorem kStg_eq (c : Dev nD) : kStg m ρ c = m ((c : Thread nD τ).loc main_arg2) := by
  funext y
  refine congrArg (m ((c : Thread nD τ).loc main_arg2)) (funext fun a => Fin.ext ?_)
  fin_cases a <;> (blk_simp; exact Nat.zero_add _)

theorem vStg_eq (c : Dev nD) : vStg m ρ c = m ((c : Thread nD τ).loc main_arg3) := by
  funext y
  refine congrArg (m ((c : Thread nD τ).loc main_arg3)) (funext fun a => Fin.ext ?_)
  fin_cases a <;> (blk_simp; exact Nat.zero_add _)

theorem woStg_eq (c : Dev nD) : woStg m ρ c = m ((c : Thread nD τ).loc main_arg4) := by
  funext y
  refine congrArg (m ((c : Thread nD τ).loc main_arg4)) (funext fun a => Fin.ext ?_)
  fin_cases a <;> (blk_simp; exact Nat.zero_add _)

theorem final_out (c : Dev nD) : finalA m ρ c (5 : Fin 6) = outAt m ρ c := by
  unfold finalA
  refine (dats m ρ 0 c).arrAt_eq_of_after_last (5 : Fin 6) t0_0 (by decide +kernel) _ fun j => ?_
  blk_simp
  rfl

end Cert.Run

end
-- ==== Proof.KernelValue.lean ====
/-
# The kernel's value

Where the devices hold their blocks of the arrays, a device's result is its block of rows of masked attention over the whole
arrays: the block of heads it reads in a round is the sum's part over those columns, and its four rounds are the four parts.
-/
module

public import proofs.«01_k».proof.Proof.Head
public import proofs.«01_k».proof.Proof.Mask
public import proofs.«01_k».proof.Proof.Arrays
public import Idealize.ShloMosaic.Lib.LayoutAt

@[expose] public section

set_option maxRecDepth 16384

noncomputable section

namespace Cert.Run

open Cert.KernelIdeal Cert.KernelIdeal.Gen
open Idealize.ShloMosaic
open Idealize.ShloMosaic.TcCoe

/-- Row, or column, `i` of block `c` among all. -/
def part (c : Dev nD) (i : Fin 512) : Fin 2048 := ⟨c.val * 512 + i.val, by have : c.val < 4 := c.isLt; omega⟩

/-- A sum over all columns, block by block. -/
theorem sum_parts (f : Fin 2048 → EReal) : (∑ j, f j) = ∑ o : Dev nD, ∑ i : Fin 512, f (part o i) := by
  rw [← Fintype.sum_prod_type', ← Equiv.sum_comp (finProdFinEquiv (m := 4) (n := 512)) f]
  refine Finset.sum_congr rfl fun p _ => congrArg f (Fin.ext ?_)
  show p.2.val + 512 * p.1.val = p.1.val * 512 + p.2.val
  omega

/-- The four blocks, in the order in which a device reads them. -/
theorem sum_order (c : Dev nD) (f : Dev nD → EReal) : f c + f (pl c 1) + f (pl c 3) + f (pl c 2) = ∑ o, f o := by
  have h : (∑ o, f o) = f (0 : Fin 4) + f (1 : Fin 4) + f (2 : Fin 4) + f (3 : Fin 4) := Fin.sum_univ_four f
  rw [h]
  fin_cases c
  · show f (0 : Fin 4) + f (1 : Fin 4) + f (3 : Fin 4) + f (2 : Fin 4) = _; abel
  · show f (1 : Fin 4) + f (2 : Fin 4) + f (0 : Fin 4) + f (3 : Fin 4) = _; abel
  · show f (2 : Fin 4) + f (3 : Fin 4) + f (1 : Fin 4) + f (0 : Fin 4) = _; abel
  · show f (3 : Fin 4) + f (0 : Fin 4) + f (2 : Fin 4) + f (1 : Fin 4) = _; abel

/-- What the devices hold: their blocks of the whole arrays. -/
structure Holds (m : (ℓ : Loc nD τ sig) → Buf (Elt Ideal) ℓ) (x : (⟨3, ![2, 2048, 768]⟩ : Shape).Idx → EReal)
    (wq : (⟨2, ![768, 2048]⟩ : Shape).Idx → EReal) (k v : (⟨4, ![2, 512, 32, 64]⟩ : Shape).Idx → EReal)
    (wo : (⟨2, ![2048, 768]⟩ : Shape).Idx → EReal) : Prop where
  x : ∀ c : Dev nD, m ((c : Thread nD τ).loc main_arg0) = Layout.block ⟨3, ![2, 512, 768]⟩ ⟨3, ![2, 2048, 768]⟩ 1 4 c x
  wq : ∀ c : Dev nD, m ((c : Thread nD τ).loc main_arg1) = Layout.block ⟨2, ![768, 512]⟩ ⟨2, ![768, 2048]⟩ 1 4 c wq
  k : ∀ c : Dev nD, m ((c : Thread nD τ).loc main_arg2) = k
  v : ∀ c : Dev nD, m ((c : Thread nD τ).loc main_arg3) = v
  wo : ∀ c : Dev nD, m ((c : Thread nD τ).loc main_arg4) = Layout.block ⟨2, ![512, 768]⟩ ⟨2, ![2048, 768]⟩ 0 4 c wo

/-- A block of rows, or of columns, read at an index. -/
theorem block_rows (c : Dev nD) (x : (⟨3, ![2, 2048, 768]⟩ : Shape).Idx → EReal) (b : Fin 2) (i : Fin 512) (n : Fin 768) :
    Layout.block ⟨3, ![2, 512, 768]⟩ ⟨3, ![2, 2048, 768]⟩ 1 4 c x (by decide) (ix3 b i n) = x (ix3 b (part c i) n) :=
  congrArg x (funext fun a => Fin.ext (by fin_cases a <;> rfl))
theorem block_cols (c : Dev nD) (w : (⟨2, ![768, 2048]⟩ : Shape).Idx → EReal) (n : Fin 768) (i : Fin 512) :
    Layout.block ⟨2, ![768, 512]⟩ ⟨2, ![768, 2048]⟩ 1 4 c w (by decide) (ix2 n i) = w (ix2 n (part c i)) :=
  congrArg w (funext fun a => Fin.ext (by fin_cases a <;> rfl))
theorem block_wo (c : Dev nD) (w : (⟨2, ![2048, 768]⟩ : Shape).Idx → EReal) (i : Fin 512) (n : Fin 768) :
    Layout.block ⟨2, ![512, 768]⟩ ⟨2, ![2048, 768]⟩ 0 4 c w (by decide) (ix2 i n) = w (ix2 (part c i) n) :=
  congrArg w (funext fun a => Fin.ext (by fin_cases a <;> rfl))

section
variable {m : (ℓ : Loc nD τ sig) → Buf (Elt Ideal) ℓ} {x : (⟨3, ![2, 2048, 768]⟩ : Shape).Idx → EReal}
  {wq : (⟨2, ![768, 2048]⟩ : Shape).Idx → EReal} {k v : (⟨4, ![2, 512, 32, 64]⟩ : Shape).Idx → EReal} {wo : (⟨2, ![2048, 768]⟩ : Shape).Idx → EReal}

/-- The block of heads of a round. -/
theorem heads_value (H : Holds m x wq k v wo) (ρ : Dev nD → PrngReg) (c : Dev nD) (b : Fin 2) (o : Dev nD) (i j : Fin 512) :
    heads (bias c) (queries (xRow m ρ c b) (wqStg m ρ o)) (cols (kHm m ρ c) b o) (cols (vHm m ρ c) b o) (ix2 i j)
      = head x wq k v b (part c i) ⟨(part o j).val / 64, by omega⟩ ⟨(part o j).val % 64, by omega⟩ := by
  have ho : o.val < 4 := o.isLt
  obtain ⟨h, d, rfl⟩ : ∃ (h : Fin 8) (d : Fin 64), j = col h d :=
    ⟨⟨j.val / 64, by omega⟩, ⟨j.val % 64, by omega⟩, Fin.ext (by show j.val = 64 * (j.val / 64) + j.val % 64; omega)⟩
  have hw : ∀ e : Fin 64, part o (col h e) = wide ⟨(part o (col h d)).val / 64, by omega⟩ e := fun e => Fin.ext (by
    show o.val * 512 + (64 * h.val + e.val) = 64 * ((o.val * 512 + (64 * h.val + d.val)) / 64) + e.val; omega)
  have hk : ∀ (g : FVec Ideal S2x512x32x64 .bf16) (j' : Fin 512) (e : Fin 64), cols (sideBySide g) b o (ix2 j' (col h e))
      = g (ix4 b j' ⟨(part o (col h d)).val / 64, by omega⟩ e) := fun g j' e => by
    show g (ix4 b j' ⟨(512 * o.val + (64 * h.val + e.val)) / 64, _⟩ ⟨(512 * o.val + (64 * h.val + e.val)) % 64, _⟩) = _
    congr 1
    refine congrArg₂ (ix4 b j') (Fin.ext ?_) (Fin.ext ?_)
    · show (512 * o.val + (64 * h.val + e.val)) / 64 = (o.val * 512 + (64 * h.val + d.val)) / 64; omega
    · show (512 * o.val + (64 * h.val + e.val)) % 64 = e.val; omega
  have hd : (⟨(part o (col h d)).val % 64, by omega⟩ : Fin 64) = d := Fin.ext (by
    show (o.val * 512 + (64 * h.val + d.val)) % 64 = d.val; omega)
  have hb : 8 * c.val + i.val / 64 = (part c i).val / 64 := by show _ = (c.val * 512 + i.val) / 64; omega
  rw [heads_eq, headOut_apply, hd]
  unfold head
  refine congrArg₂ mean (funext fun j' => ?_) (funext fun j' => ?_)
  · have hs : (∑ e : Fin 64, queries (xRow m ρ c b) (wqStg m ρ o) (ix2 i (col h e)) * cols (kHm m ρ c) b o (ix2 j' (col h e))) * scale
        = score x wq k b (part c i) ⟨(part o (col h d)).val / 64, by omega⟩ j' := by
      unfold score
      refine congrArg (· * scale) (Finset.sum_congr rfl fun e _ => ?_)
      rw [queries_apply]
      unfold kHm
      rw [hk, kStg_eq, H.k c]
      refine congrArg (· * _) (Finset.sum_congr rfl fun n _ => ?_)
      rw [wqStg_eq, H.wq o, block_cols, hw]
      refine congrArg (· * _) ?_
      show xStg m ρ c (ix3 b i n) = _
      rw [xStg_eq, H.x c, block_rows]
    rw [hs, bias_apply, hb]
    unfold masked
    split
    · exact add_zero _
    · exact EReal.add_bot _
  · unfold vHm
    rw [hk, vStg_eq, H.v c]

theorem step_value (H : Holds m x wq k v wo) (ρ : Dev nD → PrngReg) (c : Dev nD) (b : Fin 2) (o : Dev nD) (a : FVec Ideal S1x512x768 .f32) (i : Fin 512) (n : Fin 768) :
    step m ρ c b o a (ix3 0 i n)
      = a (ix3 0 i n) + ∑ j : Fin 512, head x wq k v b (part c i) ⟨(part o j).val / 64, by omega⟩ ⟨(part o j).val % 64, by omega⟩ * wo (ix2 (part o j) n) := by
  unfold step
  rw [round_apply]
  refine congrArg (_ + ·) (Finset.sum_congr rfl fun j _ => ?_)
  rw [heads_value H, woStg_eq, H.wo o, block_wo]

theorem zero_value (i : Fin 512) (n : Fin 768) : (k0_pay31 (F := Ideal)) (ix3 0 i n) = 0 := by
  pointwise [k0_pay31]

/-- A batch row of a device's result. -/
theorem outRow_value (H : Holds m x wq k v wo) (ρ : Dev nD → PrngReg) (c : Dev nD) (b : Fin 2) (i : Fin 512) (n : Fin 768) :
    outRow m ρ c b (ix3 0 i n) = attention x wq k v wo b (part c i) n := by
  unfold outRow attention
  rw [step_value H, step_value H, step_value H, step_value H, zero_value, zero_add, sum_parts, ← sum_order c]

/-- A device's result is its block of rows. -/
theorem outAt_value (H : Holds m x wq k v wo) (ρ : Dev nD → PrngReg) (c : Dev nD) (b : Fin 2) (i : Fin 512) (n : Fin 768) :
    outAt m ρ c (ix3 b i n) = attention x wq k v wo b (part c i) n := by
  unfold outAt rows
  fin_cases b
  · exact outRow_value H ρ c 0 i n
  · exact outRow_value H ρ c 1 i n

end

end Cert.Run

end
-- ==== Proof.Finite.lean ====
/-
# The precondition

What the precondition says of each entry: it is a real number. Said of the blocks of every device, it holds of the whole
arrays.
-/
module

public import proofs.«01_k».proof.Defs
public import proofs.«01_k».proof.Proof.KernelValue

@[expose] public section

set_option maxRecDepth 16384

noncomputable section

namespace Cert.Run

open Cert.KernelIdeal
open Idealize.ShloMosaic
open Idealize.ShloMosaic.TcCoe

theorem ofBits_inf : Ideal.ofBits .bf16 0x7F80#16 = ⊤ := by
  simp [Ideal.ofBits, Ideal.ieee]

/-- An absolute value below the infinite one is a real number's. -/
theorem isReal_of_abs {a : EReal} (h : Ideal.cmp .olt (max a (-a)) ⊤ = 1#1) : IsReal a := by
  have h' : max a (-a) < ⊤ := by
    by_contra hn
    simp [Ideal.cmp, hn] at h
  rw [max_lt_iff] at h'
  refine ⟨h'.1.ne, fun hb => ?_⟩
  rw [hb] at h'
  exact absurd h'.2 (by simp)

/-- The shape relations the precondition states. -/
theorem pre_facts : Cert.Pre_finite_KernelIdeal.Facts := ⟨by decide, by decide, by decide⟩
theorem pre_facts_reference : Cert.Pre_finite_ReferenceIdeal.Facts := ⟨by decide, by decide, by decide⟩

section
variable {m : (ℓ : Loc nD τ sig) → Buf (Elt Ideal) ℓ}

theorem real_x (h : Cert.Pre_KernelIdeal_finite_KernelIdeal (hPre_finite_KernelIdeal := pre_facts) m) (c : Dev nD) (b : Fin 2) (i : Fin 512) (n : Fin 768) :
    IsReal ((m ((c : Thread nD τ).loc main_arg0) : (⟨3, ![2, 512, 768]⟩ : Shape).Idx → EReal) (ix3 b i n)) := by
  have h' := congrFun (h c).1 (ix3 b i n)
  pointwise [Cert.Pre_finite_KernelIdeal.fn] at h'
  rw [ofBits_inf] at h'
  exact isReal_of_abs h'

theorem real_wq (h : Cert.Pre_KernelIdeal_finite_KernelIdeal (hPre_finite_KernelIdeal := pre_facts) m) (c : Dev nD) (n : Fin 768) (i : Fin 512) :
    IsReal ((m ((c : Thread nD τ).loc main_arg1) : (⟨2, ![768, 512]⟩ : Shape).Idx → EReal) (ix2 n i)) := by
  have h' := congrFun (h c).2.1 (ix2 n i)
  pointwise [Cert.Pre_finite_KernelIdeal.fn] at h'
  rw [ofBits_inf] at h'
  exact isReal_of_abs h'

theorem real_k (h : Cert.Pre_KernelIdeal_finite_KernelIdeal (hPre_finite_KernelIdeal := pre_facts) m) (c : Dev nD) (b : Fin 2) (j : Fin 512) (n : Fin 32) (e : Fin 64) :
    IsReal ((m ((c : Thread nD τ).loc main_arg2) : (⟨4, ![2, 512, 32, 64]⟩ : Shape).Idx → EReal) (ix4 b j n e)) := by
  have h' := congrFun (h c).2.2 (ix4 b j n e)
  pointwise [Cert.Pre_finite_KernelIdeal.fn] at h'
  rw [ofBits_inf] at h'
  exact isReal_of_abs h'

/-- Every one of all the rows is a row of some device's block. -/
theorem exists_part (j : Fin 2048) : ∃ (c : Dev nD) (i : Fin 512), j = part c i :=
  ⟨(⟨j.val / 512, by omega⟩ : Fin 4), ⟨j.val % 512, by omega⟩, Fin.ext (by show j.val = j.val / 512 * 512 + j.val % 512; omega)⟩

variable {x : (⟨3, ![2, 2048, 768]⟩ : Shape).Idx → EReal} {wq : (⟨2, ![768, 2048]⟩ : Shape).Idx → EReal} {k v : (⟨4, ![2, 512, 32, 64]⟩ : Shape).Idx → EReal}
  {wo : (⟨2, ![2048, 768]⟩ : Shape).Idx → EReal}

/-- The whole arrays' entries are real numbers. -/
theorem whole_real (H : Holds m x wq k v wo) (h : Cert.Pre_KernelIdeal_finite_KernelIdeal (hPre_finite_KernelIdeal := pre_facts) m) :
    (∀ i, IsReal (x i)) ∧ (∀ i, IsReal (wq i)) ∧ (∀ i, IsReal (k i)) := by
  refine ⟨fun i => ?_, fun i => ?_, fun i => ?_⟩
  · obtain ⟨b, j, n, rfl⟩ : ∃ (b : Fin 2) (j : Fin 2048) (n : Fin 768), i = ix3 b j n := ⟨i 0, i 1, i 2, eq_ix3 i⟩
    obtain ⟨c, l, rfl⟩ := exists_part j
    have := real_x h c b l n
    rwa [H.x c, block_rows] at this
  · obtain ⟨n, j, rfl⟩ : ∃ (n : Fin 768) (j : Fin 2048), i = ix2 n j := ⟨i 0, i 1, eq_ix2 i⟩
    obtain ⟨c, l, rfl⟩ := exists_part j
    have := real_wq h c n l
    rwa [H.wq c, block_cols] at this
  · obtain ⟨b, j, n, e, rfl⟩ : ∃ (b : Fin 2) (j : Fin 512) (n : Fin 32) (e : Fin 64), i = ix4 b j n e := ⟨i 0, i 1, i 2, i 3, eq_ix4 i⟩
    have := real_k h (0 : Fin 4) b j n e
    rwa [H.k] at this

end

end Cert.Run

end
-- ==== Proof.RefPieces.lean ====
/-
# The reference, piece by piece

The reference's result as a composition of named pieces: the block numbers, the mask, the masked scores, the exponentials of
their differences from the row's maximum, the weights, and the two contractions that end it.
-/
module

public import proofs.«01_k».proof.Proof.Gen.ReferenceIdeal.Run
public import Idealize.ShloMosaic.Lib.Pointwise

@[expose] public section

set_option maxRecDepth 16384

noncomputable section

namespace Cert.Ref

open Cert.ReferenceIdeal Cert.ReferenceIdeal.Gen
open Idealize.ShloMosaic
open Idealize.ShloMosaic.TcCoe

variable {F : FTy → Type} [FloatOps F]

/-- A word divided by another, rounded down, entry by entry. -/
def floorDiv {s : Shape} (h : S_.BroadcastsInDim s ![]) (a : IVec s 32) : IVec s 32 :=
  select (andi (cmpi .ne (signi a) (broadcastInDim s ![] h (signi (id (constantI S_ 32 64#32)))))
      (cmpi .ne (Host.remsi a (broadcastInDim s ![] h (id (constantI S_ 32 64#32)))) (broadcastInDim s ![] h (constantI S_ 32 0#32))))
    (subi (Host.divsi a (broadcastInDim s ![] h (id (constantI S_ 32 64#32)))) (broadcastInDim s ![] h (constantI S_ 32 1#32)))
    (Host.divsi a (broadcastInDim s ![] h (id (constantI S_ 32 64#32))))

/-- The block of a row, at every column. -/
def rowBlock : IVec S2048x1 32 := broadcastInDim S2048x1 ![0] bcast_S2048_S2048x1_0 (floorDiv bcast_S_S2048 (iotaInDim S2048 32 0))

/-- The block of a column, at every row. -/
def colBlock : IVec S1x512 32 := broadcastInDim S1x512 ![1] bcast_S512_S1x512_1 (floorDiv bcast_S_S512 (iotaInDim S512 32 0))

/-- The divisor three, as the remainder takes it. -/
def three : IVec S_ 32 := select (cmpi .eq (id (constantI S_ 32 3#32)) (constantI S_ 32 0#32)) (constantI S_ 32 1#32) (id (constantI S_ 32 3#32))

/-- The remainder of division by three, of the divisor's sign. -/
def remThree (a : IVec S2048x512 32) : IVec S2048x512 32 :=
  select (andi (cmpi .ne (cmpi .slt (Host.remsi a (broadcastInDim S2048x512 ![] bcast_S_S2048x512 three)) (broadcastInDim S2048x512 ![] bcast_S_S2048x512 (constantI S_ 32 0#32)))
        (broadcastInDim S2048x512 ![] bcast_S_S2048x512 (cmpi .slt three (constantI S_ 32 0#32))))
      (cmpi .ne (Host.remsi a (broadcastInDim S2048x512 ![] bcast_S_S2048x512 three)) (broadcastInDim S2048x512 ![] bcast_S_S2048x512 (constantI S_ 32 0#32))))
    (addi (Host.remsi a (broadcastInDim S2048x512 ![] bcast_S_S2048x512 three)) (broadcastInDim S2048x512 ![] bcast_S_S2048x512 three))
    (Host.remsi a (broadcastInDim S2048x512 ![] bcast_S_S2048x512 three))

/-- The mask. -/
def mask : IVec S2048x512 1 :=
  ori (ori (cmpi .eq (broadcastInDim S2048x512 ![0, 1] bcast_S2048x1_S2048x512_0_1 rowBlock) (broadcastInDim S2048x512 ![0, 1] bcast_S1x512_S2048x512_0_1 colBlock))
      (broadcastInDim S2048x512 ![0, 1] bcast_S1x512_S2048x512_0_1 (cmpi .eq colBlock (broadcastInDim S1x512 ![] bcast_S_S1x512 (constantI S_ 32 0#32)))))
    (cmpi .eq (remThree (addi (broadcastInDim S2048x512 ![0, 1] bcast_S2048x1_S2048x512_0_1 rowBlock) (broadcastInDim S2048x512 ![0, 1] bcast_S1x512_S2048x512_0_1 colBlock)))
      (broadcastInDim S2048x512 ![] bcast_S_S2048x512 (constantI S_ 32 0#32)))

/-- The queries, head by head. -/
def queries (x : FVec F S2x2048x768 .bf16) (wq : FVec F S768x2048 .bf16) : FVec F S2x2048x32x64 .bf16 :=
  shapeCast S2x2048x32x64 (truncf .bf16 (Host.dotGeneral dot_S2x2048x768_S768x2048_S2x2048x2048_2_0_01_1_n_n none x wq) bitsLt_bf16_f32)
    shapeCasts_S2x2048x2048_S2x2048x32x64

/-- The scores, `-∞` where the mask is off. -/
def scores (x : FVec F S2x2048x768 .bf16) (wq : FVec F S768x2048 .bf16) (k : FVec F S2x512x32x64 .bf16) : FVec F S2x32x2048x512 .f32 :=
  select (broadcastInDim S2x32x2048x512 ![0, 1, 2, 3] bcast_S1x1x2048x512_S2x32x2048x512_0_1_2_3 (broadcastInDim S1x1x2048x512 ![2, 3] bcast_S2048x512_S1x1x2048x512_2_3 mask))
    (mulf (extf .f32 (truncf .bf16 (Host.dotGeneral dot_S2x2048x32x64_S2x512x32x64_S2x32x2048x512_3_3_1_1_02_02 none (queries x wq) k) bitsLt_bf16_f32) bitsLt_bf16_f32)
      (broadcastInDim S2x32x2048x512 ![] bcast_S_S2x32x2048x512 (constant S_ .f32 0x3E000000#32)))
    (broadcastInDim S2x32x2048x512 ![] bcast_S_S2x32x2048x512 (id (constant S_ .f32 0xFF800000#32)))

/-- The largest score of a row. -/
def largest (s : FVec F S2x32x2048x512 .f32) : FVec F S2x32x2048 .f32 :=
  Host.reduce FloatOps.maximumf s (constant S_ .f32 0xFF800000#32) reducesTo_S2x32x2048x512_S2x32x2048_d3 h_S_

/-- The exponentials of the differences from it. -/
def exps (s : FVec F S2x32x2048x512 .f32) : FVec F S2x32x2048x512 .f32 :=
  Host.exp (subf s (broadcastInDim S2x32x2048x512 ![0, 1, 2, 3] bcast_S2x32x2048x1_S2x32x2048x512_0_1_2_3
    (broadcastInDim S2x32x2048x1 ![0, 1, 2] bcast_S2x32x2048_S2x32x2048x1_0_1_2 (largest s))))

/-- The rows that see a column at all. -/
def keep : IVec S2048 1 := Host.reduce IntOp.ori mask (constantI S_ 1 0#1) reducesTo_S2048x512_S2048_d1 h_S_

/-- The weights. -/
def weights (e : FVec F S2x32x2048x512 .f32) : FVec F S2x32x2048x512 .f32 :=
  select (broadcastInDim S2x32x2048x512 ![0, 1, 2, 3] bcast_S1x1x2048x1_S2x32x2048x512_0_1_2_3 (broadcastInDim S1x1x2048x1 ![2] bcast_S2048_S1x1x2048x1_2 keep))
    (Host.divf e (broadcastInDim S2x32x2048x512 ![0, 1, 2, 3] bcast_S2x32x2048x1_S2x32x2048x512_0_1_2_3
      (select (broadcastInDim S2x32x2048x1 ![0, 1, 2, 3] bcast_S1x1x2048x1_S2x32x2048x1_0_1_2_3 (broadcastInDim S1x1x2048x1 ![2] bcast_S2048_S1x1x2048x1_2 keep))
        (broadcastInDim S2x32x2048x1 ![0, 1, 2] bcast_S2x32x2048_S2x32x2048x1_0_1_2
          (Host.reduceAdd e (constant S_ .f32 0x00000000#32) reducesTo_S2x32x2048x512_S2x32x2048_d3 h_S_))
        (broadcastInDim S2x32x2048x1 ![] bcast_S_S2x32x2048x1 (id (constant S_ .f32 0x3F800000#32))))))
    (broadcastInDim S2x32x2048x512 ![] bcast_S_S2x32x2048x512 (id (constant S_ .f32 0x00000000#32)))

/-- The result from the weights. -/
def combine (v : FVec F S2x512x32x64 .bf16) (wo : FVec F S2048x768 .bf16) (w : FVec F S2x32x2048x512 .f32) : FVec F S2x2048x768 .f32 :=
  Host.dotGeneral dot_S2x2048x2048_S2048x768_S2x2048x768_2_0_01_1_n_n none
    (shapeCast S2x2048x2048 (transpose S2x2048x32x64 [0, 3, 1, 2]
      (Host.dotGeneral dot_S2x512x32x64_S2x32x2048x512_S2x32x64x2048_1_3_3_2_02_01 none (extf .f32 v bitsLt_bf16_f32) w)
      transposes_S2x32x64x2048_S2x2048x32x64_0_3_1_2) shapeCasts_S2x2048x32x64_S2x2048x2048)
    (extf .f32 wo bitsLt_bf16_f32)

/-- The reference's result. -/
def result (x : FVec F S2x2048x768 .bf16) (wq : FVec F S768x2048 .bf16) (k v : FVec F S2x512x32x64 .bf16) (wo : FVec F S2048x768 .bf16) : FVec F S2x2048x768 .f32 :=
  combine v wo (weights (exps (scores x wq k)))

theorem res_eq (m : (ℓ : Loc nD τ sig) → Buf (Elt F) ℓ) (c : Dev nD) : Value.res_main_v49 m c
    = result (m ((c : Thread nD τ).loc main_arg0)) (m ((c : Thread nD τ).loc main_arg1)) (m ((c : Thread nD τ).loc main_arg2))
        (m ((c : Thread nD τ).loc main_arg3)) (m ((c : Thread nD τ).loc main_arg4)) := rfl

end Cert.Ref

end
-- ==== Proof.RefValue.lean ====
/-
# The reference's value

Each piece of the reference read at an index; together, the result is masked attention where the queries' factors and the keys
are real numbers.
-/
module

public import proofs.«01_k».proof.Proof.RefPieces
public import proofs.«01_k».proof.Proof.Meaning
public import Idealize.ShloMosaic.Lib.Routing.OpsOrder

@[expose] public section

set_option maxRecDepth 16384

noncomputable section

namespace Cert.Ref

open Cert.ReferenceIdeal Cert.ReferenceIdeal.Gen
open Idealize.ShloMosaic
open Idealize.ShloMosaic.TcCoe
open Cert.Run (sees scale wide score masked head attention IsReal)

/-! ## The mask -/

theorem floor_word : ∀ i : Fin 2048,
    Scalar.select
      (IntOp.andi
        (IntOp.cmpi CmpIPredicate.ne
          (if BitVec.ofNat 32 i.val = 0 then (0 : BitVec 32) else if (BitVec.ofNat 32 i.val).msb = true then -1 else 1)
          (if 64#32 = 0 then (0 : BitVec 32) else if (64#32).msb = true then -1 else 1))
        (IntOp.cmpi CmpIPredicate.ne (IntOp.remsi ArithUnit.host (BitVec.ofNat 32 i.val) 64#32) 0#32))
      (IntOp.subi (IntOp.divsi ArithUnit.host (BitVec.ofNat 32 i.val) 64#32) 1#32)
      (IntOp.divsi ArithUnit.host (BitVec.ofNat 32 i.val) 64#32) = BitVec.ofNat 32 (i.val / 64) := by decide +kernel

theorem rowBlock_apply (i : Fin 2048) : rowBlock (ix2 i 0) = BitVec.ofNat 32 (i.val / 64) := by
  pointwise [rowBlock, floorDiv, id]
  exact floor_word i

theorem colBlock_apply (j : Fin 512) : colBlock (ix2 0 j) = BitVec.ofNat 32 (j.val / 64) := by
  pointwise [colBlock, floorDiv, id]
  exact floor_word ⟨j.val, by omega⟩

/-- The reference's bit of the blocks' numbers. -/
theorem sees_word : ∀ (a : Fin 32) (b : Fin 8),
    IntOp.ori (IntOp.ori (IntOp.cmpi CmpIPredicate.eq (BitVec.ofNat 32 a.val) (BitVec.ofNat 32 b.val))
        (IntOp.cmpi CmpIPredicate.eq (BitVec.ofNat 32 b.val) 0#32))
      (IntOp.cmpi CmpIPredicate.eq
        (Scalar.select
          (IntOp.andi
            (IntOp.cmpi CmpIPredicate.ne
              (IntOp.cmpi CmpIPredicate.slt
                (IntOp.remsi ArithUnit.host (IntOp.addi (BitVec.ofNat 32 a.val) (BitVec.ofNat 32 b.val))
                  (Scalar.select (IntOp.cmpi CmpIPredicate.eq 3#32 0#32) 1#32 3#32)) 0#32)
              (IntOp.cmpi CmpIPredicate.slt (Scalar.select (IntOp.cmpi CmpIPredicate.eq 3#32 0#32) 1#32 3#32) 0#32))
            (IntOp.cmpi CmpIPredicate.ne
              (IntOp.remsi ArithUnit.host (IntOp.addi (BitVec.ofNat 32 a.val) (BitVec.ofNat 32 b.val))
                (Scalar.select (IntOp.cmpi CmpIPredicate.eq 3#32 0#32) 1#32 3#32)) 0#32))
          (IntOp.addi
            (IntOp.remsi ArithUnit.host (IntOp.addi (BitVec.ofNat 32 a.val) (BitVec.ofNat 32 b.val))
              (Scalar.select (IntOp.cmpi CmpIPredicate.eq 3#32 0#32) 1#32 3#32))
            (Scalar.select (IntOp.cmpi CmpIPredicate.eq 3#32 0#32) 1#32 3#32))
          (IntOp.remsi ArithUnit.host (IntOp.addi (BitVec.ofNat 32 a.val) (BitVec.ofNat 32 b.val))
            (Scalar.select (IntOp.cmpi CmpIPredicate.eq 3#32 0#32) 1#32 3#32))) 0#32)
      = BitVec.ofBool (decide (sees a.val b.val)) := by decide +kernel

theorem mask_apply (i : Fin 2048) (j : Fin 512) : mask (ix2 i j) = BitVec.ofBool (decide (sees (i.val / 64) (j.val / 64))) := by
  pointwise [mask, remThree, three, id]
  rw [rowBlock_apply, colBlock_apply]
  exact sees_word ⟨i.val / 64, by omega⟩ ⟨j.val / 64, by omega⟩

/-- Every row sees the first block. -/
theorem keep_apply (i : Fin 2048) : keep (ix1 i) = 1#1 := by
  pointwise [keep]
  rw [Routing.fold_ori]
  refine ⟨0, Finset.mem_univ _, ?_⟩
  rw [mask_apply, decide_eq_true (show sees (i.val / 64) ((0 : Fin 512).val / 64) from Cert.Run.sees_first _)]
  rfl

/-! ## The scores and the weights -/

section
variable (x : FVec Ideal S2x2048x768 .bf16) (wq : FVec Ideal S768x2048 .bf16) (k v : FVec Ideal S2x512x32x64 .bf16) (wo : FVec Ideal S2048x768 .bf16)

theorem queries_apply (b : Fin 2) (i : Fin 2048) (h : Fin 32) (e : Fin 64) :
    queries x wq (ix4 b i h e) = ∑ c : Fin 768, x (ix3 b i c) * wq (ix2 c (wide h e)) := by
  pointwise [queries]
  refine Finset.sum_congr rfl fun c _ => congrArg (fun t => x (ix3 b i c) * wq (ix2 c t)) (Fin.ext ?_)
  show h.val * 64 + e.val = 64 * h.val + e.val
  omega

theorem ofBits_neg_inf : Ideal.ofBits .f32 0xFF800000#32 = ⊥ := by
  simp [Ideal.ofBits, Ideal.ieee]

theorem scores_apply (b : Fin 2) (i : Fin 2048) (h : Fin 32) (j : Fin 512) : scores x wq k (ix4 b h i j) = masked x wq k b i h j := by
  pointwise [scores, id]
  rw [mask_apply, ofBits_neg_inf]
  unfold masked score
  simp only [queries_apply]
  by_cases hs : sees (i.val / 64) (j.val / 64)
  · rw [if_pos hs, decide_eq_true hs]; rfl
  · rw [if_neg hs, decide_eq_false hs]; rfl

theorem largest_apply (s : FVec Ideal S2x32x2048x512 .f32) (b : Fin 2) (i : Fin 2048) (h : Fin 32) :
    largest s (ix3 b h i) = Finset.fold max ⊥ (fun j => s (ix4 b h i j)) Finset.univ := by
  pointwise [largest]
  rw [ofBits_neg_inf]

theorem exps_apply (s : FVec Ideal S2x32x2048x512 .f32) (b : Fin 2) (i : Fin 2048) (h : Fin 32) (j : Fin 512) :
    exps s (ix4 b h i j) = Ideal.exp (s (ix4 b h i j) - Finset.fold max ⊥ (fun j => s (ix4 b h i j)) Finset.univ) := by
  pointwise [exps]
  rw [largest_apply]

theorem weights_apply (e : FVec Ideal S2x32x2048x512 .f32) (b : Fin 2) (i : Fin 2048) (h : Fin 32) (j : Fin 512) :
    weights e (ix4 b h i j) = Ideal.div (e (ix4 b h i j)) (∑ j', e (ix4 b h i j')) := by
  pointwise [weights, id]
  rw [keep_apply]
  rfl

theorem combine_apply (w : FVec Ideal S2x32x2048x512 .f32) (b : Fin 2) (i : Fin 2048) (n : Fin 768) :
    combine v wo w (ix3 b i n)
      = ∑ c : Fin 2048, (∑ j, v (ix4 b j ⟨c.val / 64, by omega⟩ ⟨c.val % 64, by omega⟩) * w (ix4 b ⟨c.val / 64, by omega⟩ i j)) * wo (ix2 c n) := by
  pointwise [combine]

variable {x wq k}

/-- The reference's result is masked attention. -/
theorem result_apply (hx : ∀ i, IsReal (x i)) (hw : ∀ i, IsReal (wq i)) (hk : ∀ i, IsReal (k i)) (b : Fin 2) (i : Fin 2048) (n : Fin 768) :
    result x wq k v wo (ix3 b i n) = attention x wq k v wo b i n := by
  unfold result attention
  rw [combine_apply]
  refine Finset.sum_congr rfl fun c _ => ?_
  rw [Cert.Run.head_eq v hx hw hk]
  refine congrArg (· * wo (ix2 c n)) (Finset.sum_congr rfl fun j _ => ?_)
  rw [weights_apply, mul_comm]
  simp only [exps_apply, scores_apply]

end

end Cert.Ref

end
-- ==== Proof.Equation.lean ====
/-
# The equation

Under the precondition a device's result is its block of rows of the reference's result; so run, the two programs end with the
same array.
-/
module

public import proofs.«01_k».proof.Proof.Finite
public import proofs.«01_k».proof.Proof.Frames
public import proofs.«01_k».proof.Proof.RefValue

@[expose] public section

noncomputable section

namespace Cert.Run

open Cert.KernelIdeal
open Idealize.ShloMosaic Idealize.SL.Sem
open Idealize.ShloMosaic.TcCoe

section
variable {m : (ℓ : Loc nD τ sig) → Buf (Elt Ideal) ℓ} {x : (⟨3, ![2, 2048, 768]⟩ : Shape).Idx → EReal}
  {wq : (⟨2, ![768, 2048]⟩ : Shape).Idx → EReal} {k v : (⟨4, ![2, 512, 32, 64]⟩ : Shape).Idx → EReal} {wo : (⟨2, ![2048, 768]⟩ : Shape).Idx → EReal}

theorem outAt_eq (H : Holds m x wq k v wo) (h : Cert.Pre_KernelIdeal_finite_KernelIdeal (hPre_finite_KernelIdeal := pre_facts) m)
    (ρ : Dev nD → PrngReg) (c : Dev nD) :
    outAt m ρ c = Layout.block ⟨3, ![2, 512, 768]⟩ ⟨3, ![2, 2048, 768]⟩ 1 4 c (Cert.Ref.result (F := Ideal) x wq k v wo) := by
  funext i
  obtain ⟨b, j, n, rfl⟩ : ∃ (b : Fin 2) (j : Fin 512) (n : Fin 768), i = ix3 b j n := ⟨i 0, i 1, i 2, eq_ix3 i⟩
  obtain ⟨hx, hw, hk⟩ := whole_real H h
  rw [outAt_value H, block_rows, Cert.Ref.result_apply v wo hx hw hk]

end

theorem same_result : Cert.algebraic_KernelIdeal_ReferenceIdeal_pre_finite_KernelIdeal (hKernelIdeal := Cert.KernelIdeal.Gen.facts)
    (hReferenceIdeal := Cert.ReferenceIdeal.Gen.facts) (hPre_finite_KernelIdeal := pre_facts) := fun m ρ m' ρ' hpre hin => by
  have H : Holds m _ _ _ _ _ := ⟨fun c => (hin c).1, fun c => (hin c).2.1, fun c => (hin c).2.2.1, fun c => (hin c).2.2.2.1, fun c => (hin c).2.2.2.2⟩
  refine ⟨Cert.ReferenceIdeal.Value.res_main_v49 m' (0 : Fin 1), ?_, ?_⟩
  · refine (θ_run Cert.KernelIdeal.defs _ _).mono (fun _ h c => ⟨?_, (h.1 c (0 : Fin 6)).trans (final_x m ρ c), (h.1 c (1 : Fin 6)).trans (final_wq m ρ c),
      (h.1 c (2 : Fin 6)).trans (final_k m ρ c), (h.1 c (3 : Fin 6)).trans (final_v m ρ c), (h.1 c (4 : Fin 6)).trans (final_wo m ρ c)⟩) (run_main m ρ)
    rw [Cert.Ref.res_eq]
    exact ((h.1 c (5 : Fin 6)).trans (final_out m ρ c)).trans (outAt_eq H hpre ρ c)
  · exact (θ_run Cert.ReferenceIdeal.defs _ _).mono (fun r h => h (0 : Fin 1)) (Cert.ReferenceIdeal.Value.run (F := Ideal) m' ρ')

end Cert.Run

end
-- ==== Proof.lean ====
/-
# The claims

The kernel, its idealization and the reference run, leaving their arguments unchanged and every semaphore at rest; the
idealization differs from the kernel only in the mask's named constant; and where the queries' factors and the keys are real
numbers, the devices end with their blocks of rows of the reference's result.
-/
module

public import proofs.«01_k».proof.Defs
public import proofs.«01_k».proof.Proof.Frames
public import proofs.«01_k».proof.Proof.Equation

@[expose] public section

noncomputable section

namespace Cert.Proof

theorem claim : Cert.Claim := ⟨Cert.Kernel.Gen.facts, Cert.KernelIdeal.Gen.facts, Cert.ReferenceIdeal.Gen.facts,
  Cert.Run.pre_facts, Cert.Run.pre_facts_reference,
  Cert.Run.frame_kernel, Cert.Run.frame_ideal, fun m ρ _ => Cert.Run.frame_ideal m ρ trivial,
  Cert.Run.frame_reference, fun m ρ _ => Cert.Run.frame_reference m ρ trivial,
  Cert.Run.named_mask, Cert.Run.same_result⟩

end Cert.Proof

end
